-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_router [hPre_finite_router : Cert.Pre_finite_router.Facts] (m : (ℓ : Loc Cert.KernelIdeal.nD Cert.KernelIdeal.τ Cert.KernelIdeal.sig) → Buf (Elt Ideal) ℓ) : Prop :=
  ∀ c : Dev Cert.KernelIdeal.nD,
    (Cert.Pre_finite_router.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 = (fun _ => 1#1)
    ∧ (Cert.Pre_finite_router.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.1 = (fun _ => 1#1)
    ∧ (Cert.Pre_finite_router.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_router [hPre_finite_router : Cert.Pre_finite_router.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_router.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).1 = (fun _ => 1#1)
    ∧ (Cert.Pre_finite_router.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.1 = (fun _ => 1#1)
    ∧ (Cert.Pre_finite_router.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite_router [hKernelIdeal : Cert.KernelIdeal.Facts] [hPre_finite_router : Cert.Pre_finite_router.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_router m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite_router [hReferenceIdeal : Cert.ReferenceIdeal.Facts] [hPre_finite_router : Cert.Pre_finite_router.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_router m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal_pre_finite_router [hKernelIdeal : Cert.KernelIdeal.Facts] [hReferenceIdeal : Cert.ReferenceIdeal.Facts] [hPre_finite_router : Cert.Pre_finite_router.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_router m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_router : Cert.Pre_finite_router.Facts),
    quiescent_Kernel (hKernel := hKernel)
    ∧ quiescent_KernelIdeal (hKernelIdeal := hKernelIdeal)
    ∧ quiescent_KernelIdeal_pre_finite_router (hKernelIdeal := hKernelIdeal) (hPre_finite_router := hPre_finite_router)
    ∧ quiescent_ReferenceIdeal (hReferenceIdeal := hReferenceIdeal)
    ∧ quiescent_ReferenceIdeal_pre_finite_router (hReferenceIdeal := hReferenceIdeal) (hPre_finite_router := hPre_finite_router)
    ∧ preserves_Kernel_KernelIdeal
    ∧ algebraic_KernelIdeal_ReferenceIdeal_pre_finite_router (hKernelIdeal := hKernelIdeal) (hReferenceIdeal := hReferenceIdeal) (hPre_finite_router := hPre_finite_router)
-- ==== Pre_finite_router.lean ====
abbrev S128x768 : Shape := ⟨2, ![128, 768]⟩
abbrev S768 : Shape := ⟨1, ![768]⟩
abbrev S16x768 : Shape := ⟨2, ![16, 768]⟩
abbrev S16 : Shape := ⟨1, ![16]⟩
abbrev S16x1536x768 : Shape := ⟨3, ![16, 1536, 768]⟩
abbrev S16x1536 : Shape := ⟨2, ![16, 1536]⟩
abbrev S16x768x768 : Shape := ⟨3, ![16, 768, 768]⟩
abbrev S_ : Shape := ⟨0, ![]⟩

class Facts : Prop where
  bcast_S_S768 : S_.BroadcastsInDim S768 (![] : Fin 0 → Fin S768.rank)
  bcast_S_S16x768 : S_.BroadcastsInDim S16x768 (![] : Fin 0 → Fin S16x768.rank)
  bcast_S_S16 : S_.BroadcastsInDim S16 (![] : Fin 0 → Fin S16.rank)

variable [Facts]

def fn {F : FTy → Type} [FloatOps F] (main_arg0 : FVec F S128x768 .f32) (main_arg1 : FVec F S768 .f32) (main_arg2 : FVec F S16x768 .f32) (main_arg3 : FVec F S16 .f32) (main_arg4 : FVec F S16x1536x768 .f32) (main_arg5 : FVec F S16x1536 .f32) (main_arg6 : FVec F S16x768x768 .f32) (main_arg7 : FVec F S16x768 .f32) : IVec S768 1 × IVec S16x768 1 × IVec S16 1 :=
  let main_cst : FVec F S_ .f32 := constant S_ .f32 0xFF800000#32
  let main_v0 : FVec F S768 .f32 := broadcastInDim S768 ![] bcast_S_S768 main_cst
  let main_v1 : IVec S768 1 := cmpf .ogt main_arg1 main_v0
  let main_cst_0 : FVec F S_ .f32 := constant S_ .f32 0x7F800000#32
  let main_v2 : FVec F S768 .f32 := broadcastInDim S768 ![] bcast_S_S768 main_cst_0
  let main_v3 : IVec S768 1 := cmpf .olt main_arg1 main_v2
  let main_v4 : IVec S768 1 := andi main_v1 main_v3
  let main_cst_1 : FVec F S_ .f32 := constant S_ .f32 0xFF800000#32
  let main_v5 : FVec F S16x768 .f32 := broadcastInDim S16x768 ![] bcast_S_S16x768 main_cst_1
  let main_v6 : IVec S16x768 1 := cmpf .ogt main_arg2 main_v5
  let main_cst_2 : FVec F S_ .f32 := constant S_ .f32 0x7F800000#32
  let main_v7 : FVec F S16x768 .f32 := broadcastInDim S16x768 ![] bcast_S_S16x768 main_cst_2
  let main_v8 : IVec S16x768 1 := cmpf .olt main_arg2 main_v7
  let main_v9 : IVec S16x768 1 := andi main_v6 main_v8
  let main_cst_3 : FVec F S_ .f32 := constant S_ .f32 0xFF800000#32
  let main_v10 : FVec F S16 .f32 := broadcastInDim S16 ![] bcast_S_S16 main_cst_3
  let main_v11 : IVec S16 1 := cmpf .ogt main_arg3 main_v10
  let main_cst_4 : FVec F S_ .f32 := constant S_ .f32 0x7F800000#32
  let main_v12 : FVec F S16 .f32 := broadcastInDim S16 ![] bcast_S_S16 main_cst_4
  let main_v13 : IVec S16 1 := cmpf .olt main_arg3 main_v12
  let main_v14 : IVec S16 1 := andi main_v11 main_v13
  (main_v4, main_v9, main_v14)
-- ==== Kernel.lean ====
abbrev S128x768 : Shape := ⟨2, ![128, 768]⟩
abbrev S768 : Shape := ⟨1, ![768]⟩
abbrev S16x768 : Shape := ⟨2, ![16, 768]⟩
abbrev S16 : Shape := ⟨1, ![16]⟩
abbrev S16x1536x768 : Shape := ⟨3, ![16, 1536, 768]⟩
abbrev S16x1536 : Shape := ⟨2, ![16, 1536]⟩
abbrev S16x768x768 : Shape := ⟨3, ![16, 768, 768]⟩
abbrev S1x768 : Shape := ⟨2, ![1, 768]⟩
abbrev S1x16 : Shape := ⟨2, ![1, 16]⟩
abbrev S1x384x768 : Shape := ⟨3, ![1, 384, 768]⟩
abbrev S1x768x384 : Shape := ⟨3, ![1, 768, 384]⟩
abbrev S768x128 : Shape := ⟨2, ![768, 128]⟩
abbrev S16x128 : Shape := ⟨2, ![16, 128]⟩
abbrev S128 : Shape := ⟨1, ![128]⟩
abbrev S1x128 : Shape := ⟨2, ![1, 128]⟩
abbrev S768x1 : Shape := ⟨2, ![768, 1]⟩
abbrev S16x1 : Shape := ⟨2, ![16, 1]⟩
abbrev S1x1536 : Shape := ⟨2, ![1, 1536]⟩
abbrev S1536x1 : Shape := ⟨2, ![1536, 1]⟩
abbrev S384x768 : Shape := ⟨2, ![384, 768]⟩
abbrev S384x128 : Shape := ⟨2, ![384, 128]⟩
abbrev S384x1 : Shape := ⟨2, ![384, 1]⟩
abbrev S768x384 : Shape := ⟨2, ![768, 384]⟩

abbrev nBuf : Space → Nat
  | .hbm => 11
  | .vmem => 36
  | .smem => 0
  | _ => 0

abbrev bufTy : (tb : Table) → Fin (tcTables nBuf tb) → BufTy
  | .hbm, ⟨0, _⟩ => ⟨S128x768, .f32⟩
  | .hbm, ⟨1, _⟩ => ⟨S768, .f32⟩
  | .hbm, ⟨2, _⟩ => ⟨S16x768, .f32⟩
  | .hbm, ⟨3, _⟩ => ⟨S16, .f32⟩
  | .hbm, ⟨4, _⟩ => ⟨S16x1536x768, .f32⟩
  | .hbm, ⟨5, _⟩ => ⟨S16x1536, .f32⟩
  | .hbm, ⟨6, _⟩ => ⟨S16x768x768, .f32⟩
  | .hbm, ⟨7, _⟩ => ⟨S16x768, .f32⟩
  | .hbm, ⟨8, _⟩ => ⟨S1x768, .f32⟩
  | .hbm, ⟨9, _⟩ => ⟨S1x16, .f32⟩
  | .hbm, ⟨10, _⟩ => ⟨S128x768, .f32⟩
  | .local _ .vmem, ⟨0, _⟩ => ⟨S128x768, .f32⟩
  | .local _ .vmem, ⟨1, _⟩ => ⟨S1x768, .f32⟩
  | .local _ .vmem, ⟨2, _⟩ => ⟨S16x768, .f32⟩
  | .local _ .vmem, ⟨3, _⟩ => ⟨S1x16, .f32⟩
  | .local _ .vmem, ⟨4, _⟩ => ⟨S1x384x768, .f32⟩
  | .local _ .vmem, ⟨5, _⟩ => ⟨S1x384x768, .f32⟩
  | .local _ .vmem, ⟨6, _⟩ => ⟨S1x384x768, .f32⟩
  | .local _ .vmem, ⟨7, _⟩ => ⟨S1x384x768, .f32⟩
  | .local _ .vmem, ⟨8, _⟩ => ⟨S1x384x768, .f32⟩
  | .local _ .vmem, ⟨9, _⟩ => ⟨S1x384x768, .f32⟩
  | .local _ .vmem, ⟨10, _⟩ => ⟨S1x384x768, .f32⟩
  | .local _ .vmem, ⟨11, _⟩ => ⟨S1x384x768, .f32⟩
  | .local _ .vmem, ⟨12, _⟩ => ⟨S1x768x384, .f32⟩
  | .local _ .vmem, ⟨13, _⟩ => ⟨S1x768x384, .f32⟩
  | .local _ .vmem, ⟨14, _⟩ => ⟨S1x768x384, .f32⟩
  | .local _ .vmem, ⟨15, _⟩ => ⟨S1x768x384, .f32⟩
  | .local _ .vmem, ⟨16, _⟩ => ⟨S1x384x768, .f32⟩
  | .local _ .vmem, ⟨17, _⟩ => ⟨S1x384x768, .f32⟩
  | .local _ .vmem, ⟨18, _⟩ => ⟨S1x384x768, .f32⟩
  | .local _ .vmem, ⟨19, _⟩ => ⟨S1x384x768, .f32⟩
  | .local _ .vmem, ⟨20, _⟩ => ⟨S1x384x768, .f32⟩
  | .local _ .vmem, ⟨21, _⟩ => ⟨S1x384x768, .f32⟩
  | .local _ .vmem, ⟨22, _⟩ => ⟨S1x384x768, .f32⟩
  | .local _ .vmem, ⟨23, _⟩ => ⟨S1x384x768, .f32⟩
  | .local _ .vmem, ⟨24, _⟩ => ⟨S1x768x384, .f32⟩
  | .local _ .vmem, ⟨25, _⟩ => ⟨S1x768x384, .f32⟩
  | .local _ .vmem, ⟨26, _⟩ => ⟨S1x768x384, .f32⟩
  | .local _ .vmem, ⟨27, _⟩ => ⟨S1x768x384, .f32⟩
  | .local _ .vmem, ⟨28, _⟩ => ⟨S16x1536, .f32⟩
  | .local _ .vmem, ⟨29, _⟩ => ⟨S16x768, .f32⟩
  | .local _ .vmem, ⟨30, _⟩ => ⟨S128x768, .f32⟩
  | .local _ .vmem, ⟨31, _⟩ => ⟨S768x128, .f32⟩
  | .local _ .vmem, ⟨32, _⟩ => ⟨S768x128, .f32⟩
  | .local _ .vmem, ⟨33, _⟩ => ⟨S768x128, .f32⟩
  | .local _ .vmem, ⟨34, _⟩ => ⟨S16x128, .f32⟩
  | .local _ .vmem, ⟨35, _⟩ => ⟨S768x128, .f32⟩
  | _, _ => ⟨S128x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_call0_v0 : Ref sig .tc := ⟨.hbm, 8, rfl⟩
abbrev main_call0_v1 : Ref sig .tc := ⟨.hbm, 9, rfl⟩
abbrev main_v0 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_stg16_0 : Ref sig .tc := ⟨.vmem, 28, rfl⟩
abbrev cc0_stg17_0 : Ref sig .tc := ⟨.vmem, 29, rfl⟩
abbrev cc0_stg18_0 : Ref sig .tc := ⟨.vmem, 30, rfl⟩
abbrev cc0_scratch0 : Ref sig .tc := ⟨.vmem, 31, rfl⟩
abbrev cc0_scratch1 : Ref sig .tc := ⟨.vmem, 32, rfl⟩
abbrev cc0_scratch2 : Ref sig .tc := ⟨.vmem, 33, rfl⟩
abbrev cc0_scratch3 : Ref sig .tc := ⟨.vmem, 34, rfl⟩
abbrev cc0_scratch4 : Ref sig .tc := ⟨.vmem, 35, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27
abbrev cc0_sem16_0 : DmaSem sig := 28
abbrev cc0_sem17_0 : DmaSem sig := 29
abbrev cc0_sem18_0 : DmaSem sig := 30

abbrev nD : Nat := 1
abbrev τ : Topo := Topo.v7x

variable {F : FTy → Type} [FloatOps F]

abbrev grid0 : Pipeline.Grid := ⟨1, ![8], ![false]⟩

def k0_off1 (i : grid0.Coords) : Fin 2 → Nat :=
  let c2_i32 : BitVec 32 := 2#32
  let arg0 : BitVec 32 := BitVec.ofNat 32 (i 0).val
  let v4 : BitVec 32 := Scalar.muli c2_i32 arg0
  let v5 : Index := Scalar.indexCast v4
  let c0_2 : Index := 0#32
  ![v5.toNat, 0]
def k0_off2 (i : grid0.Coords) : Fin 2 → Nat :=
  let c2_i32 : BitVec 32 := 2#32
  let arg0 : BitVec 32 := BitVec.ofNat 32 (i 0).val
  let v4 : BitVec 32 := Scalar.muli c2_i32 arg0
  let v8 : Index := Scalar.indexCast v4
  let c0_3 : Index := 0#32
  ![v8.toNat, 0]
def k0_off3 (i : grid0.Coords) : Fin 2 → Nat :=
  let c2_i32 : BitVec 32 := 2#32
  let arg0 : BitVec 32 := BitVec.ofNat 32 (i 0).val
  let v4 : BitVec 32 := Scalar.muli c2_i32 arg0
  let v11 : Index := Scalar.indexCast v4
  let c0_4 : Index := 0#32
  ![v11.toNat, 0]
def k0_off4 (i : grid0.Coords) : Fin 2 → Nat :=
  let c2_i32_56 : BitVec 32 := 2#32
  let arg0 : BitVec 32 := BitVec.ofNat 32 (i 0).val
  let v95 : BitVec 32 := Scalar.muli c2_i32_56 arg0
  let c1_i32 : BitVec 32 := 1#32
  let v96 : BitVec 32 := Scalar.addi v95 c1_i32
  let v97 : Index := Scalar.indexCast v96
  let c0_57 : Index := 0#32
  ![v97.toNat, 0]
def k0_off5 (i : grid0.Coords) : Fin 2 → Nat :=
  let c2_i32_56 : BitVec 32 := 2#32
  let arg0 : BitVec 32 := BitVec.ofNat 32 (i 0).val
  let v95 : BitVec 32 := Scalar.muli c2_i32_56 arg0
  let c1_i32 : BitVec 32 := 1#32
  let v96 : BitVec 32 := Scalar.addi v95 c1_i32
  let v100 : Index := Scalar.indexCast v96
  let c0_58 : Index := 0#32
  ![v100.toNat, 0]
def k0_off6 (i : grid0.Coords) : Fin 2 → Nat :=
  let c2_i32_56 : BitVec 32 := 2#32
  let arg0 : BitVec 32 := BitVec.ofNat 32 (i 0).val
  let v95 : BitVec 32 := Scalar.muli c2_i32_56 arg0
  let c1_i32 : BitVec 32 := 1#32
  let v96 : BitVec 32 := Scalar.addi v95 c1_i32
  let v103 : Index := Scalar.indexCast v96
  let c0_59 : Index := 0#32
  ![v103.toNat, 0]
def k0_cond2 (i : grid0.Coords) : BitVec 1 :=
  let arg0 : BitVec 32 := BitVec.ofNat 32 (i 0).val
  let c7_i32 : BitVec 32 := 7#32
  let v187 : BitVec 1 := Scalar.cmpi .eq arg0 c7_i32
  let v188 : BitVec 32 := Scalar.extui v187
  let c0_i32_114 : BitVec 32 := 0#32
  let v189 : BitVec 1 := Scalar.cmpi .ne v188 c0_i32_114
  v189

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c2_i32 : BitVec 32 := 2#32
  let v0 : BitVec 32 := Scalar.muli c2_i32 arg0
  let c0_i32 : BitVec 32 := 0#32
  let c0_i32_0 : BitVec 32 := 0#32
  let c0_i32_1 : BitVec 32 := 0#32
  ![v0.toNat, c0_i32.toNat, c0_i32_0.toNat]

def cc0_transform_5 (i : grid0.Coords) : Fin 3 → Nat :=
  let arg0 : BitVec 32 := BitVec.ofNat 32 (i 0).val
  let c2_i32 : BitVec 32 := 2#32
  let v0 : BitVec 32 := Scalar.muli c2_i32 arg0
  let c1_i32 : BitVec 32 := 1#32
  let c0_i32 : BitVec 32 := 0#32
  let c0_i32_0 : BitVec 32 := 0#32
  ![v0.toNat, c1_i32.toNat, c0_i32.toNat]

def cc0_transform_6 (i : grid0.Coords) : Fin 3 → Nat :=
  let arg0 : BitVec 32 := BitVec.ofNat 32 (i 0).val
  let c2_i32 : BitVec 32 := 2#32
  let v0 : BitVec 32 := Scalar.muli c2_i32 arg0
  let c2_i32_0 : BitVec 32 := 2#32
  let c0_i32 : BitVec 32 := 0#32
  let c0_i32_1 : BitVec 32 := 0#32
  ![v0.toNat, c2_i32_0.toNat, c0_i32.toNat]

def cc0_transform_7 (i : grid0.Coords) : Fin 3 → Nat :=
  let arg0 : BitVec 32 := BitVec.ofNat 32 (i 0).val
  let c2_i32 : BitVec 32 := 2#32
  let v0 : BitVec 32 := Scalar.muli c2_i32 arg0
  let c3_i32 : BitVec 32 := 3#32
  let c0_i32 : BitVec 32 := 0#32
  let c0_i32_0 : BitVec 32 := 0#32
  ![v0.toNat, c3_i32.toNat, c0_i32.toNat]

def cc0_transform_8 (i : grid0.Coords) : Fin 3 → Nat :=
  let arg0 : BitVec 32 := BitVec.ofNat 32 (i 0).val
  let c2_i32 : BitVec 32 := 2#32
  let v0 : BitVec 32 := Scalar.muli c2_i32 arg0
  let c0_i32 : BitVec 32 := 0#32
  let c0_i32_0 : BitVec 32 := 0#32
  let c0_i32_1 : BitVec 32 := 0#32
  ![v0.toNat, c0_i32.toNat, c0_i32_0.toNat]

def cc0_transform_9 (i : grid0.Coords) : Fin 3 → Nat :=
  let arg0 : BitVec 32 := BitVec.ofNat 32 (i 0).val
  let c2_i32 : BitVec 32 := 2#32
  let v0 : BitVec 32 := Scalar.muli c2_i32 arg0
  let c0_i32 : BitVec 32 := 0#32
  let c1_i32 : BitVec 32 := 1#32
  let c0_i32_0 : BitVec 32 := 0#32
  ![v0.toNat, c0_i32.toNat, c1_i32.toNat]

def cc0_transform_10 (i : grid0.Coords) : Fin 3 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.addi v0 c1_i32
  let c0_i32 : BitVec 32 := 0#32
  let c0_i32_0 : BitVec 32 := 0#32
  let c0_i32_1 : BitVec 32 := 0#32
  ![v1.toNat, c0_i32.toNat, c0_i32_0.toNat]

def cc0_transform_11 (i : grid0.Coords) : Fin 3 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.addi v0 c1_i32
  let c1_i32_0 : BitVec 32 := 1#32
  let c0_i32 : BitVec 32 := 0#32
  let c0_i32_1 : BitVec 32 := 0#32
  ![v1.toNat, c1_i32_0.toNat, c0_i32.toNat]

def cc0_transform_12 (i : grid0.Coords) : Fin 3 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.addi v0 c1_i32
  let c2_i32_0 : BitVec 32 := 2#32
  let c0_i32 : BitVec 32 := 0#32
  let c0_i32_1 : BitVec 32 := 0#32
  ![v1.toNat, c2_i32_0.toNat, c0_i32.toNat]

def cc0_transform_13 (i : grid0.Coords) : Fin 3 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.addi v0 c1_i32
  let c3_i32 : BitVec 32 := 3#32
  let c0_i32 : BitVec 32 := 0#32
  let c0_i32_0 : BitVec 32 := 0#32
  ![v1.toNat, c3_i32.toNat, c0_i32.toNat]

def cc0_transform_14 (i : grid0.Coords) : Fin 3 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.addi v0 c1_i32
  let c0_i32 : BitVec 32 := 0#32
  let c0_i32_0 : BitVec 32 := 0#32
  let c0_i32_1 : BitVec 32 := 0#32
  ![v1.toNat, c0_i32.toNat, c0_i32_0.toNat]

def cc0_transform_15 (i : grid0.Coords) : Fin 3 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.addi v0 c1_i32
  let c0_i32 : BitVec 32 := 0#32
  let c1_i32_0 : BitVec 32 := 1#32
  let c0_i32_1 : BitVec 32 := 0#32
  ![v1.toNat, c0_i32.toNat, c1_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S128x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S16x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x384x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x384x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x384x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x384x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x768x384 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x768x384 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x384x768 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x384x768 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x384x768 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x384x768 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x768x384 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x768x384 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 1 → Memref sig .tc .vmem S16x1536 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S16x768 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S128x768 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]
-- ==== ReferenceIdeal.lean ====
abbrev S128x768 : Shape := ⟨2, ![128, 768]⟩
abbrev S768 : Shape := ⟨1, ![768]⟩
abbrev S16x768 : Shape := ⟨2, ![16, 768]⟩
abbrev S16 : Shape := ⟨1, ![16]⟩
abbrev S16x1536x768 : Shape := ⟨3, ![16, 1536, 768]⟩
abbrev S16x1536 : Shape := ⟨2, ![16, 1536]⟩
abbrev S16x768x768 : Shape := ⟨3, ![16, 768, 768]⟩
abbrev S_ : Shape := ⟨0, ![]⟩
abbrev S128 : Shape := ⟨1, ![128]⟩
abbrev S128x1 : Shape := ⟨2, ![128, 1]⟩
abbrev S1x768 : Shape := ⟨2, ![1, 768]⟩
abbrev S768x16 : Shape := ⟨2, ![768, 16]⟩
abbrev S128x16 : Shape := ⟨2, ![128, 16]⟩
abbrev S1x16 : Shape := ⟨2, ![1, 16]⟩
abbrev S128x2 : Shape := ⟨2, ![128, 2]⟩
abbrev S128x2x1 : Shape := ⟨3, ![128, 2, 1]⟩
abbrev S128x2x1536x768 : Shape := ⟨4, ![128, 2, 1536, 768]⟩
abbrev S128x2x1536 : Shape := ⟨3, ![128, 2, 1536]⟩
abbrev S128x2x768 : Shape := ⟨3, ![128, 2, 768]⟩
abbrev S128x2x768x768 : Shape := ⟨4, ![128, 2, 768, 768]⟩

abbrev nBuf : Space → Nat
  | .hbm => 116
  | .vmem => 0
  | .smem => 0
  | _ => 0

abbrev bufTy : (tb : Table) → Fin (tcTables nBuf tb) → BufTy
  | .hbm, ⟨0, _⟩ => ⟨S128x768, .f32⟩
  | .hbm, ⟨1, _⟩ => ⟨S768, .f32⟩
  | .hbm, ⟨2, _⟩ => ⟨S16x768, .f32⟩
  | .hbm, ⟨3, _⟩ => ⟨S16, .f32⟩
  | .hbm, ⟨4, _⟩ => ⟨S16x1536x768, .f32⟩
  | .hbm, ⟨5, _⟩ => ⟨S16x1536, .f32⟩
  | .hbm, ⟨6, _⟩ => ⟨S16x768x768, .f32⟩
  | .hbm, ⟨7, _⟩ => ⟨S16x768, .f32⟩
  | .hbm, ⟨8, _⟩ => ⟨S128x768, .f32⟩
  | .hbm, ⟨9, _⟩ => ⟨S_, .f32⟩
  | .hbm, ⟨10, _⟩ => ⟨S128, .f32⟩
  | .hbm, ⟨11, _⟩ => ⟨S128x1, .f32⟩
  | .hbm, ⟨12, _⟩ => ⟨S_, .f32⟩
  | .hbm, ⟨13, _⟩ => ⟨S128x1, .f32⟩
  | .hbm, ⟨14, _⟩ => ⟨S128x1, .f32⟩
  | .hbm, ⟨15, _⟩ => ⟨S_, .f32⟩
  | .hbm, ⟨16, _⟩ => ⟨S128x1, .f32⟩
  | .hbm, ⟨17, _⟩ => ⟨S128x1, .f32⟩
  | .hbm, ⟨18, _⟩ => ⟨S128x1, .f32⟩
  | .hbm, ⟨19, _⟩ => ⟨S128x768, .f32⟩
  | .hbm, ⟨20, _⟩ => ⟨S128x768, .f32⟩
  | .hbm, ⟨21, _⟩ => ⟨S1x768, .f32⟩
  | .hbm, ⟨22, _⟩ => ⟨S128x768, .f32⟩
  | .hbm, ⟨23, _⟩ => ⟨S128x768, .f32⟩
  | .hbm, ⟨24, _⟩ => ⟨S768x16, .f32⟩
  | .hbm, ⟨25, _⟩ => ⟨S128x16, .f32⟩
  | .hbm, ⟨26, _⟩ => ⟨S1x16, .f32⟩
  | .hbm, ⟨27, _⟩ => ⟨S128x16, .f32⟩
  | .hbm, ⟨28, _⟩ => ⟨S128x16, .f32⟩
  | .hbm, ⟨29, _⟩ => ⟨S128x2, .f32⟩
  | .hbm, ⟨30, _⟩ => ⟨S128x2, .i32⟩
  | .hbm, ⟨31, _⟩ => ⟨S_, .f32⟩
  | .hbm, ⟨32, _⟩ => ⟨S128, .f32⟩
  | .hbm, ⟨33, _⟩ => ⟨S_, .f32⟩
  | .hbm, ⟨34, _⟩ => ⟨S128, .f32⟩
  | .hbm, ⟨35, _⟩ => ⟨S128, .f32⟩
  | .hbm, ⟨36, _⟩ => ⟨S128x1, .f32⟩
  | .hbm, ⟨37, _⟩ => ⟨S128x2, .f32⟩
  | .hbm, ⟨38, _⟩ => ⟨S128x2, .f32⟩
  | .hbm, ⟨39, _⟩ => ⟨S128x2, .f32⟩
  | .hbm, ⟨40, _⟩ => ⟨S_, .f32⟩
  | .hbm, ⟨41, _⟩ => ⟨S128, .f32⟩
  | .hbm, ⟨42, _⟩ => ⟨S128x1, .f32⟩
  | .hbm, ⟨43, _⟩ => ⟨S128x2, .f32⟩
  | .hbm, ⟨44, _⟩ => ⟨S128x2, .f32⟩
  | .hbm, ⟨45, _⟩ => ⟨S_, .i32⟩
  | .hbm, ⟨46, _⟩ => ⟨S128x2, .i32⟩
  | .hbm, ⟨47, _⟩ => ⟨S128x2, .i1⟩
  | .hbm, ⟨48, _⟩ => ⟨S_, .i32⟩
  | .hbm, ⟨49, _⟩ => ⟨S128x2, .i32⟩
  | .hbm, ⟨50, _⟩ => ⟨S128x2, .i32⟩
  | .hbm, ⟨51, _⟩ => ⟨S128x2, .i32⟩
  | .hbm, ⟨52, _⟩ => ⟨S128x2x1, .i32⟩
  | .hbm, ⟨53, _⟩ => ⟨S128x2x1536x768, .f32⟩
  | .hbm, ⟨54, _⟩ => ⟨S_, .i32⟩
  | .hbm, ⟨55, _⟩ => ⟨S128x2, .i32⟩
  | .hbm, ⟨56, _⟩ => ⟨S128x2, .i1⟩
  | .hbm, ⟨57, _⟩ => ⟨S_, .i32⟩
  | .hbm, ⟨58, _⟩ => ⟨S128x2, .i32⟩
  | .hbm, ⟨59, _⟩ => ⟨S128x2, .i32⟩
  | .hbm, ⟨60, _⟩ => ⟨S128x2, .i32⟩
  | .hbm, ⟨61, _⟩ => ⟨S128x2x1, .i32⟩
  | .hbm, ⟨62, _⟩ => ⟨S128x2x1536, .f32⟩
  | .hbm, ⟨63, _⟩ => ⟨S128x2x1536, .f32⟩
  | .hbm, ⟨64, _⟩ => ⟨S128x2x1536, .f32⟩
  | .hbm, ⟨65, _⟩ => ⟨S128x2x768, .f32⟩
  | .hbm, ⟨66, _⟩ => ⟨S128x2x768, .f32⟩
  | .hbm, ⟨67, _⟩ => ⟨S_, .f32⟩
  | .hbm, ⟨68, _⟩ => ⟨S128x2x768, .f32⟩
  | .hbm, ⟨69, _⟩ => ⟨S128x2x768, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S128x2x768, .f32⟩
  | .hbm, ⟨74, _⟩ => ⟨S128x2x768, .f32⟩
  | .hbm, ⟨75, _⟩ => ⟨S_, .f32⟩
  | .hbm, ⟨76, _⟩ => ⟨S128x2x768, .f32⟩
  | .hbm, ⟨77, _⟩ => ⟨S128x2x768, .f32⟩
  | .hbm, ⟨78, _⟩ => ⟨S_, .f32⟩
  | .hbm, ⟨79, _⟩ => ⟨S128x2x768, .f32⟩
  | .hbm, ⟨80, _⟩ => ⟨S128x2x768, .f32⟩
  | .hbm, ⟨81, _⟩ => ⟨S128x2x768, .f32⟩
  | .hbm, ⟨82, _⟩ => ⟨S128x2x768, .f32⟩
  | .hbm, ⟨83, _⟩ => ⟨S_, .f32⟩
  | .hbm, ⟨84, _⟩ => ⟨S128x2x768, .f32⟩
  | .hbm, ⟨85, _⟩ => ⟨S128x2x768, .f32⟩
  | .hbm, ⟨86, _⟩ => ⟨S_, .f32⟩
  | .hbm, ⟨87, _⟩ => ⟨S128x2x768, .f32⟩
  | .hbm, ⟨88, _⟩ => ⟨S128x2x768, .f32⟩
  | .hbm, ⟨89, _⟩ => ⟨S128x2x768, .f32⟩
  | .hbm, ⟨90, _⟩ => ⟨S_, .f32⟩
  | .hbm, ⟨91, _⟩ => ⟨S128x2x768, .f32⟩
  | .hbm, ⟨92, _⟩ => ⟨S128x2x768, .f32⟩
  | .hbm, ⟨93, _⟩ => ⟨S128x2x768, .f32⟩
  | .hbm, ⟨94, _⟩ => ⟨S_, .i32⟩
  | .hbm, ⟨95, _⟩ => ⟨S128x2, .i32⟩
  | .hbm, ⟨96, _⟩ => ⟨S128x2, .i1⟩
  | .hbm, ⟨97, _⟩ => ⟨S_, .i32⟩
  | .hbm, ⟨98, _⟩ => ⟨S128x2, .i32⟩
  | .hbm, ⟨99, _⟩ => ⟨S128x2, .i32⟩
  | .hbm, ⟨100, _⟩ => ⟨S128x2, .i32⟩
  | .hbm, ⟨101, _⟩ => ⟨S128x2x1, .i32⟩
  | .hbm, ⟨102, _⟩ => ⟨S128x2x768x768, .f32⟩
  | .hbm, ⟨103, _⟩ => ⟨S_, .i32⟩
  | .hbm, ⟨104, _⟩ => ⟨S128x2, .i32⟩
  | .hbm, ⟨105, _⟩ => ⟨S128x2, .i1⟩
  | .hbm, ⟨106, _⟩ => ⟨S_, .i32⟩
  | .hbm, ⟨107, _⟩ => ⟨S128x2, .i32⟩
  | .hbm, ⟨108, _⟩ => ⟨S128x2, .i32⟩
  | .hbm, ⟨109, _⟩ => ⟨S128x2, .i32⟩
  | .hbm, ⟨110, _⟩ => ⟨S128x2x1, .i32⟩
  | .hbm, ⟨111, _⟩ => ⟨S128x2x768, .f32⟩
  | .hbm, ⟨112, _⟩ => ⟨S128x2x768, .f32⟩
  | .hbm, ⟨113, _⟩ => ⟨S128x2x768, .f32⟩
  | .hbm, ⟨114, _⟩ => ⟨S128x768, .f32⟩
  | .hbm, ⟨115, _⟩ => ⟨S128x768, .f32⟩
  | _, _ => ⟨S128x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_values : Ref sig .tc := ⟨.hbm, 29, rfl⟩
abbrev main_indices : Ref sig .tc := ⟨.hbm, 30, rfl⟩
abbrev main_cst_2 : Ref sig .tc := ⟨.hbm, 31, rfl⟩
abbrev main_v18 : Ref sig .tc := ⟨.hbm, 32, rfl⟩
abbrev main_cst_3 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_4 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_c : Ref sig .tc := ⟨.hbm, 45, rfl⟩
abbrev main_v29 : Ref sig .tc := ⟨.hbm, 46, rfl⟩
abbrev main_v30 : Ref sig .tc := ⟨.hbm, 47, rfl⟩
abbrev main_c_5 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_c_6 : Ref sig .tc := ⟨.hbm, 54, rfl⟩
abbrev main_v36 : Ref sig .tc := ⟨.hbm, 55, rfl⟩
abbrev main_v37 : Ref sig .tc := ⟨.hbm, 56, rfl⟩
abbrev main_c_7 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_8 : Ref sig .tc := ⟨.hbm, 67, rfl⟩
abbrev main_v47 : Ref sig .tc := ⟨.hbm, 68, rfl⟩
abbrev main_v48 : Ref sig .tc := ⟨.hbm, 69, rfl⟩
abbrev main_cst_9 : Ref sig .tc := ⟨.hbm, 70, rfl⟩
abbrev main_cst_10 : Ref sig .tc := ⟨.hbm, 71, rfl⟩
abbrev main_call0_v0 : Ref sig .tc := ⟨.hbm, 72, rfl⟩
abbrev main_call0_v1 : Ref sig .tc := ⟨.hbm, 73, rfl⟩
abbrev main_call0_v2 : Ref sig .tc := ⟨.hbm, 74, rfl⟩
abbrev main_call0_v3 : Ref sig .tc := ⟨.hbm, 75, rfl⟩
abbrev main_call0_v4 : Ref sig .tc := ⟨.hbm, 76, rfl⟩
abbrev main_v49 : Ref sig .tc := ⟨.hbm, 77, rfl⟩
abbrev main_cst_11 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_cst_12 : Ref sig .tc := ⟨.hbm, 83, rfl⟩
abbrev main_v54 : Ref sig .tc := ⟨.hbm, 84, rfl⟩
abbrev main_v55 : Ref sig .tc := ⟨.hbm, 85, rfl⟩
abbrev main_cst_13 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_cst_14 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_c_15 : Ref sig .tc := ⟨.hbm, 94, rfl⟩
abbrev main_v62 : Ref sig .tc := ⟨.hbm, 95, rfl⟩
abbrev main_v63 : Ref sig .tc := ⟨.hbm, 96, rfl⟩
abbrev main_c_16 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_c_17 : Ref sig .tc := ⟨.hbm, 103, rfl⟩
abbrev main_v69 : Ref sig .tc := ⟨.hbm, 104, rfl⟩
abbrev main_v70 : Ref sig .tc := ⟨.hbm, 105, rfl⟩
abbrev main_c_18 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩

abbrev nD : Nat := 1
abbrev τ : Topo := Topo.v7x

variable {F : FTy → Type} [FloatOps F]
-- ==== Proof.Scratch.lean ====
/-
  What the kernel reads back: every second row of a scratch stored in two halves, and one row of a table.
-/
module

public import proofs.«01_k».proof.Proof.Gen.KernelIdeal.Skeleton
public import Idealize.ShloMosaic.Lib.Pipeline.ReadBack
public import Idealize.ShloMosaic.Lib.Pointwise

@[expose] public section

set_option maxRecDepth 16384

noncomputable section

namespace Cert.Moe

open Idealize.ShloMosaic Cert.KernelIdeal Cert.KernelIdeal.Gen

/-- The last two stores into a hidden scratch: its upper and its lower half. -/
def halves (p q : Vec Ideal S384x128 .f32) (L : List (View.Piece (Elt Ideal) S768x128 .f32)) :
    List (View.Piece (Elt Ideal) S768x128 .f32) :=
  ⟨Rect.unit ![384, 0] ![384, 128] inb_S768x128_S384x128_384_0, q⟩
    :: ⟨Rect.unit ![0, 0] ![384, 128] inb_S768x128_S384x128_0_0, p⟩ :: L

section
variable {v : View sig .tc .vmem S768x128 .f32} {p q : Vec Ideal S384x128 .f32} {L : List (View.Piece (Elt Ideal) S768x128 .f32)}
    {f : Fin 768 → Fin 128 → EReal}

/-- A scratch stored in two halves holds, at a row, the row of the half it lies in. -/
theorem halves_at (hp : ∀ j t, p (ix2 j t) = f ⟨j, by omega⟩ t) (hq : ∀ j t, q (ix2 j t) = f ⟨384 + j, by omega⟩ t)
    (r : Fin 768) (t : Fin 128) : View.canon (halves p q L) (ix2 r t) = f r t := by
  let G : S768x128.Idx → EReal := fun y => f (y 0) (y 1)
  refine View.canon_append_of_piecesOf (Val := Elt Ideal) (e := .f32) G L
    [⟨Rect.unit ![384, 0] ![384, 128] inb_S768x128_S384x128_384_0, q⟩,
      ⟨Rect.unit ![0, 0] ![384, 128] inb_S768x128_S384x128_0_0, p⟩] ⟨fun x => ?_, fun x => ?_, trivial⟩ (ix2 r t) ?_
  · obtain ⟨a, b, rfl⟩ : ∃ (a : Fin 384) (b : Fin 128), x = ix2 a b := ⟨x 0, x 1, eq_ix2 x⟩
    refine (hq a b).trans (congrArg₂ f (Fin.ext ?_) (Fin.ext ?_))
    · show 384 + a.val = 384 + 1 * a.val
      omega
    · show b.val = 0 + 1 * b.val
      omega
  · obtain ⟨a, b, rfl⟩ : ∃ (a : Fin 384) (b : Fin 128), x = ix2 a b := ⟨x 0, x 1, eq_ix2 x⟩
    refine (hp a b).trans (congrArg₂ f (Fin.ext ?_) (Fin.ext ?_))
    · show a.val = 0 + 1 * a.val
      omega
    · show b.val = 0 + 1 * b.val
      omega
  · by_cases h : r.val < 384
    · refine ⟨_, List.mem_cons_of_mem _ List.mem_cons_self, ?_⟩
      rw [show (ix2 r t : S768x128.Idx) = (Rect.unit ![0, 0] ![384, 128] inb_S768x128_S384x128_0_0).emb (ix2 (⟨r, h⟩ : Fin 384) t) from by
        funext a
        match a with
        | ⟨0, _⟩ => exact Fin.ext (show r.val = 0 + 1 * r.val by omega)
        | ⟨1, _⟩ => exact Fin.ext (show t.val = 0 + 1 * t.val by omega)]
      exact LoadRect.idx_mem _ _
    · refine ⟨_, List.mem_cons_self, ?_⟩
      rw [show (ix2 r t : S768x128.Idx) = (Rect.unit ![384, 0] ![384, 128] inb_S768x128_S384x128_384_0).emb
          (ix2 (⟨r - 384, by omega⟩ : Fin 384) t) from by
        funext a
        match a with
        | ⟨0, _⟩ => exact Fin.ext (show r.val = 384 + 1 * (r.val - 384) by omega)
        | ⟨1, _⟩ => exact Fin.ext (show t.val = 0 + 1 * t.val by omega)]
      exact LoadRect.idx_mem _ _

/-- The even rows read back. -/
theorem even_back (hp : ∀ j t, p (ix2 j t) = f ⟨j, by omega⟩ t) (hq : ∀ j t, q (ix2 j t) = f ⟨384 + j, by omega⟩ t)
    (j : Fin 384) (t : Fin 128) :
    v.readCov (halves p q L) { off := ![0, 0], size := ![384, 128], stride := ![2, 1], inb := inb_S768x128_S384x128_0_0_s_2_1 } (ix2 j t)
      = f ⟨2 * j, by omega⟩ t := by
  rw [View.readCov_eq_canon']
  refine Eq.trans (congrArg _ ?_) (halves_at hp hq ⟨2 * j, by omega⟩ t)
  funext a
  match a with
  | ⟨0, _⟩ => exact Fin.ext (show 0 + 2 * j.val = 2 * j.val by omega)
  | ⟨1, _⟩ => exact Fin.ext (show 0 + 1 * t.val = t.val by omega)

/-- The odd rows read back. -/
theorem odd_back (hp : ∀ j t, p (ix2 j t) = f ⟨j, by omega⟩ t) (hq : ∀ j t, q (ix2 j t) = f ⟨384 + j, by omega⟩ t)
    (j : Fin 384) (t : Fin 128) :
    v.readCov (halves p q L) { off := ![1, 0], size := ![384, 128], stride := ![2, 1], inb := inb_S768x128_S384x128_1_0_s_2_1 } (ix2 j t)
      = f ⟨2 * j + 1, by omega⟩ t := by
  rw [View.readCov_eq_canon']
  refine Eq.trans (congrArg _ ?_) (halves_at hp hq ⟨2 * j + 1, by omega⟩ t)
  funext a
  match a with
  | ⟨0, _⟩ => exact Fin.ext (show 1 + 2 * j.val = 2 * j.val + 1 by omega)
  | ⟨1, _⟩ => exact Fin.ext (show 0 + 1 * t.val = t.val by omega)

end

/-- A row of a table with sixteen rows. -/
theorem row_at {C : ℕ} (x : (⟨2, ![16, C]⟩ : Shape).Idx → EReal) (off : Fin 2 → ℕ)
    (h : ∀ a, off a + (![1, C] : Fin 2 → ℕ) a ≤ (⟨2, ![16, C]⟩ : Shape).size a) (e : Fin 16) (h0 : off 0 = e.val) (h1 : off 1 = 0)
    (r : Fin C) : View.ld (Val := Elt Ideal) (e' := .f32) x (Rect.unit (s := ⟨2, ![16, C]⟩) off ![1, C] h) (ix2 0 r) = x (ix2 e r) := by
  refine congrArg x (funext fun a => ?_)
  match a with
  | ⟨0, _⟩ => exact Fin.ext (show off 0 + 1 * 0 = e.val by omega)
  | ⟨1, _⟩ => exact Fin.ext (show off 1 + 1 * r.val = r.val by omega)

/-- The first expert of a grid point. -/
def firstExpert (i : grid0.Coords) : Fin 16 := ⟨2 * (i 0).val, by have : (i 0).val < 8 := (i 0).isLt; omega⟩

/-- The second expert of a grid point. -/
def secondExpert (i : grid0.Coords) : Fin 16 := ⟨2 * (i 0).val + 1, by have : (i 0).val < 8 := (i 0).isLt; omega⟩

/-- Twice a point's number, in words. -/
theorem twice : ∀ n : Fin 8, (2#32 * BitVec.ofNat 32 n.val).toNat = 2 * n.val := by decide
/-- One more than twice a point's number, in words. -/
theorem twice_succ : ∀ n : Fin 8, (2#32 * BitVec.ofNat 32 n.val + 1#32).toNat = 2 * n.val + 1 := by decide

/-- Row offset 1 is the first expert's number. -/
theorem off1_at (i : grid0.Coords) : k0_off1 i 0 = (firstExpert i).val := twice (i 0)
/-- Row offset 2 is the first expert's number. -/
theorem off2_at (i : grid0.Coords) : k0_off2 i 0 = (firstExpert i).val := twice (i 0)
/-- Row offset 3 is the first expert's number. -/
theorem off3_at (i : grid0.Coords) : k0_off3 i 0 = (firstExpert i).val := twice (i 0)
/-- Row offset 4 is the second expert's number. -/
theorem off4_at (i : grid0.Coords) : k0_off4 i 0 = (secondExpert i).val := twice_succ (i 0)
/-- Row offset 5 is the second expert's number. -/
theorem off5_at (i : grid0.Coords) : k0_off5 i 0 = (secondExpert i).val := twice_succ (i 0)
/-- Row offset 6 is the second expert's number. -/
theorem off6_at (i : grid0.Coords) : k0_off6 i 0 = (secondExpert i).val := twice_succ (i 0)

end Cert.Moe
-- ==== Proof.FirstTwo.lean ====
/-
  The two greatest entries of a finite row, the lower index first among equals: what a stable descending sort
  puts at its first two places.
-/
module

public import Idealize.ShloMosaic.Lib.SortFacts
public import Idealize.ShloMosaic.PureOps.Ideal

@[expose] public section

namespace Cert.Moe

open Idealize.ShloMosaic

/-- `i` is the first place at which `f` is greatest. -/
def FirstMax {n : ℕ} (f : Fin n → EReal) (i : Fin n) : Prop :=
  (∀ k, f k ≤ f i) ∧ ∀ k, f k = f i → i ≤ k

/-- The row with the entry at `i` taken away (made the least element). -/
noncomputable def without {n : ℕ} (f : Fin n → EReal) (i : Fin n) : Fin n → EReal :=
  fun k => if k = i then ⊥ else f k

/-- There is one first maximum. -/
theorem FirstMax.unique {n : ℕ} {f : Fin n → EReal} {i j : Fin n} (hi : FirstMax f i) (hj : FirstMax f j) : i = j :=
  le_antisymm (hi.2 j (le_antisymm (hi.1 j) (hj.1 i))) (hj.2 i (le_antisymm (hj.1 i) (hi.1 j)))

/-- A row that has an entry has a first greatest one. -/
theorem exists_firstMax {n : ℕ} (f : Fin (n + 1) → EReal) : ∃ i, FirstMax f i := by
  obtain ⟨j, hj⟩ := Finite.exists_max f
  obtain ⟨i, hi, hm⟩ := (Set.toFinite {k | f k = f j}).exists_minimal ⟨j, rfl⟩
  have hi' : f i = f j := hi
  refine ⟨i, fun k => hi' ▸ hj k, fun k hk => ?_⟩
  rcases le_total i k with h | h
  · exact h
  · exact hm (show f k = f j from hk.trans hi') h

/-- The strict order a stable descending sort realizes: the greater entry first, the lower index among equals. -/
noncomputable def ahead {n : ℕ} (f : Fin n → EReal) (a b : Fin n) : Bool := decide (f b < f a ∨ f b = f a ∧ a < b)

/-- Sorting an ascending list of indices stably by the entries alone is sorting it by the entries and the index. -/
theorem stableSort_ahead {n : ℕ} (f : Fin n → EReal) (l : List (Fin n)) (hl : l.Pairwise (· < ·)) :
    stableSort (fun a b => decide (f b < f a)) l = stableSort (ahead f) l := by
  induction l with
  | nil => rfl
  | cons a l ih =>
    rw [List.pairwise_cons] at hl
    unfold stableSort
    rw [ih hl.2]
    refine insertBefore_congr _ _ a _ fun b hb => ?_
    have hb' : b ∈ l := (perm_stableSort _ l).mem_iff.mp hb
    have : ¬ b < a := not_lt.mpr (hl.1 b hb').le
    simp [ahead, this]

/-- Sorting by the greater value alone is sorting with equal values taken in the order of their places. -/
theorem sortedFrom_ahead {n : ℕ} (f : Fin n → EReal) :
    sortedFrom (fun a b => decide (f b < f a)) = sortedFrom (ahead f) := by
  funext k
  unfold sortedFrom
  rw [List.get_of_eq (show sortPositions n (fun a b => decide (f b < f a)) = sortPositions n (ahead f) from
    stableSort_ahead f _ (List.pairwise_lt_finRange n))]
  rfl

/-- An earlier place of the sorted row holds an entry that is ahead of a later place's. -/
theorem ahead_sortedFrom {n : ℕ} (f : Fin n → EReal) (i j : Fin n) (hij : i < j) :
    ahead f (sortedFrom (ahead f) i) (sortedFrom (ahead f) j) = true := by
  have h := sortedFrom_noInversion (ahead f) (ahead f)
    (fun a b h => by
      simp only [ahead, decide_eq_true_eq] at h
      simp only [ahead, decide_eq_false_iff_not]
      rintro (h' | ⟨h', h''⟩)
      · rcases h with h | ⟨h, -⟩
        · exact lt_asymm h h'
        · exact h'.ne h.symm
      · rcases h with h | ⟨-, h⟩
        · exact h.ne h'.symm
        · exact lt_asymm h h'')
    (fun _ _ h => h)
    (fun a b c h h' => by
      simp only [ahead, decide_eq_false_iff_not, not_or, not_and, not_lt] at h h' ⊢
      refine ⟨h.1.trans h'.1, fun e => ?_⟩
      have hab : f b = f a := le_antisymm (h'.1.trans e.le) h.1
      have hbc : f c = f b := e.trans hab.symm
      exact (h'.2 hbc).trans (h.2 hab)) i j hij
  have hne : sortedFrom (ahead f) i ≠ sortedFrom (ahead f) j := fun e => hij.ne (sortedFrom_injective _ e)
  simp only [ahead, decide_eq_false_iff_not, not_or, not_and, not_lt] at h
  simp only [ahead, decide_eq_true_eq]
  rcases lt_or_eq_of_le h.1 with h' | h'
  · exact .inl h'
  · exact .inr ⟨h', lt_of_le_of_ne (h.2 h'.symm) hne⟩

/-- The sort's first place holds the first greatest entry. -/
theorem firstMax_sortedFrom {n : ℕ} (f : Fin (n + 2) → EReal) :
    FirstMax f (sortedFrom (fun a b => decide (f b < f a)) 0) := by
  rw [sortedFrom_ahead]
  have key : ∀ k, k ≠ sortedFrom (ahead f) 0 → ahead f (sortedFrom (ahead f) 0) k = true := fun k hk => by
    obtain ⟨j, rfl⟩ := sortedFrom_surjective (ahead f) k
    exact ahead_sortedFrom f 0 j (Fin.pos_iff_ne_zero.mpr fun e => hk (e ▸ rfl))
  refine ⟨fun k => ?_, fun k hk => ?_⟩
  · by_cases e : k = sortedFrom (ahead f) 0
    · rw [e]
    · have := key k e
      simp only [ahead, decide_eq_true_eq] at this
      rcases this with h | ⟨h, -⟩
      · exact h.le
      · exact h.le
  · by_cases e : k = sortedFrom (ahead f) 0
    · rw [e]
    · have := key k e
      simp only [ahead, decide_eq_true_eq] at this
      rcases this with h | ⟨-, h⟩
      · exact absurd hk h.ne
      · exact h.le

/-- The second place is not the first. -/
theorem one_ne_zero_fin (n : ℕ) : (1 : Fin (n + 2)) ≠ 0 := by simp

/-- The sort's second place holds the first greatest entry of the rest, when no entry is the least element. -/
theorem firstMax_without_sortedFrom {n : ℕ} (f : Fin (n + 2) → EReal) (hf : ∀ k, f k ≠ ⊥) :
    FirstMax (without f (sortedFrom (fun a b => decide (f b < f a)) 0)) (sortedFrom (fun a b => decide (f b < f a)) 1) := by
  rw [sortedFrom_ahead]
  set i₀ := sortedFrom (ahead f) 0 with h₀
  set i₁ := sortedFrom (ahead f) 1 with h₁
  have h01 : i₁ ≠ i₀ := fun e => one_ne_zero_fin n (sortedFrom_injective _ e)
  have key : ∀ k, k ≠ i₀ → k ≠ i₁ → ahead f i₁ k = true := fun k hk hk' => by
    obtain ⟨j, rfl⟩ := sortedFrom_surjective (ahead f) k
    refine ahead_sortedFrom f 1 j ?_
    have a0 : j ≠ 0 := fun e => hk (e ▸ rfl)
    have a1 : j ≠ 1 := fun e => hk' (e ▸ rfl)
    rw [Fin.lt_def]
    have b0 : (j : ℕ) ≠ 0 := fun e => a0 (Fin.ext e)
    have b1 : (j : ℕ) ≠ 1 := fun e => a1 (Fin.ext (by simpa using e))
    have : ((1 : Fin (n + 2)) : ℕ) = 1 := by simp
    omega
  have w1 : without f i₀ i₁ = f i₁ := if_neg h01
  refine ⟨fun k => ?_, fun k hk => ?_⟩
  · rw [w1]
    by_cases e : k = i₀
    · rw [without, if_pos e]; exact bot_le
    rw [without, if_neg e]
    by_cases e' : k = i₁
    · rw [e']
    have := key k e e'
    simp only [ahead, decide_eq_true_eq] at this
    rcases this with h | ⟨h, -⟩
    · exact h.le
    · exact h.le
  · rw [w1] at hk
    by_cases e : k = i₀
    · rw [without, if_pos e] at hk; exact absurd hk.symm (hf i₁)
    rw [without, if_neg e] at hk
    by_cases e' : k = i₁
    · rw [e']
    have := key k e e'
    simp only [ahead, decide_eq_true_eq] at this
    rcases this with h | ⟨-, h⟩
    · exact absurd hk h.ne
    · exact h.le

/-- The first greatest entry of the rest is another one, when the row has two entries and none is the least element. -/
theorem FirstMax.without_ne {n : ℕ} {f : Fin (n + 2) → EReal} (hf : ∀ k, f k ≠ ⊥) {i j : Fin (n + 2)}
    (hj : FirstMax (without f i) j) : j ≠ i := by
  rintro rfl
  obtain ⟨k, hk⟩ := exists_ne j
  have h := hj.1 k
  rw [without, without, if_neg hk, if_pos rfl] at h
  exact hf k (le_bot_iff.mp h)

end Cert.Moe
-- ==== Proof.Spec.lean ====
/-
  The mixture-of-experts block over the extended reals, token by token, in plain sums: the RMS norm, the experts'
  scores, the two greatest of them and their weights, each expert's clipped gate and its two products.
-/
module

public import proofs.«01_k».proof.Proof.FirstTwo

@[expose] public section

noncomputable section

namespace Cert.Moe

open Idealize.ShloMosaic

/-- The block's eight arrays, as functions of their coordinates. -/
structure Arrays where
  x : Fin 128 → Fin 768 → EReal
  scale : Fin 768 → EReal
  gateW : Fin 16 → Fin 768 → EReal
  gateB : Fin 16 → EReal
  w1 : Fin 16 → Fin 1536 → Fin 768 → EReal
  b1 : Fin 16 → Fin 1536 → EReal
  w2 : Fin 16 → Fin 768 → Fin 768 → EReal
  b2 : Fin 16 → Fin 768 → EReal

/-- The gated unit of one expert on a pair of hidden values: the first clipped above, the second on both sides. -/
def gated (g l : EReal) : EReal :=
  min g (Ideal.ofBits .f32 0x40E00000#32)
    * Ideal.logistic (Ideal.ofBits .f32 0x3FD9DB23#32 * min g (Ideal.ofBits .f32 0x40E00000#32))
    * (min (Ideal.ofBits .f32 0x40E00000#32) (max (Ideal.ofBits .f32 0xC0E00000#32) l) + 1)

/-- Row `2 j` of a hidden layer, the gate of pair `j`. -/
def evenRow (j : Fin 768) : Fin 1536 := ⟨2 * j, by omega⟩

/-- Row `2 j + 1` of a hidden layer, the linear half of pair `j`. -/
def oddRow (j : Fin 768) : Fin 1536 := ⟨2 * j + 1, by omega⟩

/-- The weight of the greatest score against the second one: `1 / (1 + exp (b - a))`. -/
def share (a b : EReal) : EReal := Ideal.div 1 (1 + Ideal.exp (b - a))

namespace Arrays

variable (A : Arrays)

/-- The normalized token. -/
def normed (t : Fin 128) (k : Fin 768) : EReal :=
  A.x t k * Ideal.rsqrt (Ideal.div (∑ j, A.x t j * A.x t j) (Ideal.ofBits .f32 0x44400000#32)
    + Ideal.ofBits .f32 0x3727C5AC#32) * A.scale k

/-- An expert's score for a token. -/
def score (t : Fin 128) (e : Fin 16) : EReal := ∑ k, A.gateW e k * A.normed t k + A.gateB e

/-- The hidden layer of expert `e`, before the gate. -/
def hidden (e : Fin 16) (r : Fin 1536) (t : Fin 128) : EReal := ∑ k, A.w1 e r k * A.normed t k + A.b1 e r

/-- The hidden layer of expert `e`, gated. -/
def act (e : Fin 16) (j : Fin 768) (t : Fin 128) : EReal :=
  gated (A.hidden e (evenRow j) t) (A.hidden e (oddRow j) t)

/-- What expert `e` makes of a token. -/
def expert (e : Fin 16) (n : Fin 768) (t : Fin 128) : EReal := ∑ j, A.w2 e n j * A.act e j t + A.b2 e n

/-- The expert of greatest score, the first among equals. -/
def best (t : Fin 128) : Fin 16 := Classical.choose (exists_firstMax (A.score t))

/-- The best expert has the greatest score, the first where several have it. -/
theorem firstMax_best (t : Fin 128) : FirstMax (A.score t) (A.best t) := Classical.choose_spec (exists_firstMax (A.score t))

/-- The expert of greatest score among the others, the first among equals. -/
def second (t : Fin 128) : Fin 16 := Classical.choose (exists_firstMax (without (A.score t) (A.best t)))

/-- The second expert has the greatest score of the others, the first where several have it. -/
theorem firstMax_second (t : Fin 128) : FirstMax (without (A.score t) (A.best t)) (A.second t) :=
  Classical.choose_spec (exists_firstMax (without (A.score t) (A.best t)))

/-- An expert's weight for a token: zero but for the two chosen. -/
def weight (t : Fin 128) (e : Fin 16) : EReal :=
  (if e = A.best t then share (A.score t (A.best t)) (A.score t (A.second t)) else 0)
    + (if e = A.second t then 1 - share (A.score t (A.best t)) (A.score t (A.second t)) else 0)

/-- The block's result: the token plus every expert's output times its weight. -/
def result (t : Fin 128) (n : Fin 768) : EReal := A.x t n + ∑ e, A.weight t e * A.expert e n t

/-- No score of a token is infinite. -/
def Bounded : Prop := ∀ t e, ∃ r : ℝ, A.score t e = (r : EReal)

variable {A}

/-- A bounded score is not minus infinity. -/
theorem Bounded.ne_bot (h : A.Bounded) (t : Fin 128) (e : Fin 16) : A.score t e ≠ ⊥ := by
  obtain ⟨r, hr⟩ := h t e; rw [hr]; exact EReal.coe_ne_bot r

/-- The two chosen experts differ. -/
theorem Bounded.second_ne_best (h : A.Bounded) (t : Fin 128) : A.second t ≠ A.best t :=
  FirstMax.without_ne (h.ne_bot t) (A.firstMax_second t)

/-- The weighted sum over all experts is the two chosen ones' sum. -/
theorem Bounded.result_eq (h : A.Bounded) (t : Fin 128) (n : Fin 768) :
    A.result t n = A.x t n
      + (A.expert (A.best t) n t * share (A.score t (A.best t)) (A.score t (A.second t))
        + A.expert (A.second t) n t * (1 - share (A.score t (A.best t)) (A.score t (A.second t)))) := by
  have hne := h.second_ne_best t
  unfold result
  congr 1
  rw [← Finset.sum_subset (Finset.subset_univ {A.best t, A.second t}) fun e _ he => ?_,
    Finset.sum_pair hne.symm]
  · simp only [weight, hne, hne.symm, if_true, if_false, add_zero, zero_add, mul_comm]
  · simp only [Finset.mem_insert, Finset.mem_singleton, not_or] at he
    simp only [weight, he.1, he.2, if_false, add_zero, zero_mul]

end Arrays

end Cert.Moe
-- ==== Proof.Expert.lean ====
/-
  What the kernel computes for one expert, at an index: four quarters of the hidden layer, each stored into half of a
  scratch of 768 rows, and the accumulator's new contents from the two scratches' even and odd rows.
-/
module

public import proofs.«01_k».proof.Proof.Spec
public import proofs.«01_k».proof.Proof.Gen.KernelIdeal.Skeleton
public import Idealize.ShloMosaic.Lib.Pointwise

@[expose] public section

set_option maxRecDepth 16384

noncomputable section

namespace Cert.Moe

open Idealize.ShloMosaic Cert.KernelIdeal Cert.KernelIdeal.Gen

/-- Row `j` of a quarter of the hidden layer: the quarter's weights against a token, plus the bias `off` rows on. -/
def quarter (off : ℕ) (hoff : off ≤ 1152) (n : Vec Ideal S768x128 .f32) (b : Vec Ideal S1x1536 .f32)
    (w : Vec Ideal S1x384x768 .f32) (j : Fin 384) (t : Fin 128) : EReal :=
  ∑ k : Fin 768, w (ix3 0 j k) * n (ix2 k t) + b (ix2 0 ⟨off + j, by omega⟩)

section
variable (n : Vec Ideal S768x128 .f32) (b : Vec Ideal S1x1536 .f32) (w : Vec Ideal S1x384x768 .f32) (j : Fin 384) (t : Fin 128)

/-- Quarter one of the first expert's hidden layer. -/
theorem quarter_14 : k0_pay14 n b w (ix2 j t) = quarter 0 (by omega) n b w j t := by
  pointwise [k0_pay14, k0_pay12, quarter]
/-- Quarter two of the first expert's hidden layer. -/
theorem quarter_15 : k0_pay15 n b w (ix2 j t) = quarter 384 (by omega) n b w j t := by
  pointwise [k0_pay15, k0_pay12, quarter]
/-- Quarter three of the first expert's hidden layer. -/
theorem quarter_18 : k0_pay18 n (k0_pay12 b) w (ix2 j t) = quarter 768 (by omega) n b w j t := by
  pointwise [k0_pay18, k0_pay12, quarter]
/-- Quarter four of the first expert's hidden layer. -/
theorem quarter_19 : k0_pay19 n (k0_pay12 b) w (ix2 j t) = quarter 1152 (by omega) n b w j t := by
  pointwise [k0_pay19, k0_pay12, quarter]
/-- Quarter one of the second expert's hidden layer. -/
theorem quarter_23 : k0_pay23 n (k0_pay21 b) w (ix2 j t) = quarter 0 (by omega) n b w j t := by
  pointwise [k0_pay23, k0_pay21, quarter]
/-- Quarter two of the second expert's hidden layer. -/
theorem quarter_24 : k0_pay24 n (k0_pay21 b) w (ix2 j t) = quarter 384 (by omega) n b w j t := by
  pointwise [k0_pay24, k0_pay21, quarter]
/-- Quarter three of the second expert's hidden layer. -/
theorem quarter_28 : k0_pay28 n (k0_pay21 b) w (ix2 j t) = quarter 768 (by omega) n b w j t := by
  pointwise [k0_pay28, k0_pay21, quarter]
/-- Quarter four of the second expert's hidden layer. -/
theorem quarter_29 : k0_pay29 n (k0_pay21 b) w (ix2 j t) = quarter 1152 (by omega) n b w j t := by
  pointwise [k0_pay29, k0_pay21, quarter]

end

/-- The accumulator after one expert: its contents plus the expert's weight times the bias and the two halves of the
    second product, each against the gated pairs of one scratch. -/
def step (wrow : Vec Ideal S1x128 .f32) (b : Vec Ideal S1x768 .f32) (e0 o0 : Vec Ideal S384x128 .f32)
    (w0 : Vec Ideal S1x768x384 .f32) (e1 o1 : Vec Ideal S384x128 .f32) (w1 : Vec Ideal S1x768x384 .f32)
    (acc : Vec Ideal S768x128 .f32) (n : Fin 768) (t : Fin 128) : EReal :=
  acc (ix2 n t) + wrow (ix2 0 t) * (b (ix2 0 n) + ∑ j : Fin 384, w0 (ix3 0 n j) * gated (e0 (ix2 j t)) (o0 (ix2 j t))
    + ∑ j : Fin 384, w1 (ix3 0 n j) * gated (e1 (ix2 j t)) (o1 (ix2 j t)))

section
variable (wrow : Vec Ideal S1x128 .f32) (b : Vec Ideal S1x768 .f32) (e0 o0 : Vec Ideal S384x128 .f32)
    (w0 : Vec Ideal S1x768x384 .f32) (e1 o1 : Vec Ideal S384x128 .f32) (w1 : Vec Ideal S1x768x384 .f32)
    (acc : Vec Ideal S768x128 .f32) (n : Fin 768) (t : Fin 128)

/-- What the first expert of a point adds to the accumulator. -/
theorem step_first : k0_pay20 wrow (k0_pay17 (k0_pay13 b) e0 k0_pay16 o0 w0) e1 o1 w1 acc (ix2 n t)
    = step wrow b e0 o0 w0 e1 o1 w1 acc n t := by
  pointwise [k0_pay20, k0_pay17, k0_pay16, k0_pay13, step, gated]

/-- What the second expert of a point adds to the accumulator. -/
theorem step_second : k0_pay1 wrow (k0_pay27 (k0_pay22 b) (k0_pay25 e0 o0) (k0_pay26 w0)) (k0_pay30 e1 o1) w1 acc (ix2 n t)
    = step wrow b e0 o0 w0 e1 o1 w1 acc n t := by
  pointwise [k0_pay1, k0_pay27, k0_pay22, k0_pay25, k0_pay26, k0_pay30, step, gated]

/-- The result's block is the accumulator turned round. -/
theorem output (a : Vec Ideal S768x128 .f32) : k0_pay2 a (ix2 t n) = a (ix2 n t) := by
  pointwise [k0_pay2]

end

end Cert.Moe
-- ==== Proof.OneExpert.lean ====
/-
  One expert's blocks hold its weights: then the quarters are the hidden layer's rows, and the accumulator gains the
  expert's output times its weight.
-/
module

public import proofs.«01_k».proof.Proof.Expert

@[expose] public section

set_option maxRecDepth 16384

noncomputable section

namespace Cert.Moe

open Idealize.ShloMosaic Cert.KernelIdeal Cert.KernelIdeal.Gen

/-- Place `j` of the first half of the pairs. -/
def lowPair (j : Fin 384) : Fin 768 := ⟨j, by omega⟩

/-- Place `j` of the second half of the pairs. -/
def highPair (j : Fin 384) : Fin 768 := ⟨384 + j, by omega⟩

/-- A sum over the pairs, by its halves. -/
theorem sum_pairs (f : Fin 768 → EReal) : ∑ j, f j = ∑ j, f (lowPair j) + ∑ j, f (highPair j) :=
  Fin.sum_univ_two_halves 384 384 rfl f

/-- The blocks of expert `e`: its hidden layer's weights in four quarters, and its second weights in two halves. -/
structure ExpertBlocks (A : Arrays) (e : Fin 16) (q0 q1 q2 q3 : Vec Ideal S1x384x768 .f32) (c0 c1 : Vec Ideal S1x768x384 .f32) : Prop where
  q0_at : ∀ (j : Fin 384) k, q0 (ix3 0 j k) = A.w1 e ⟨0 + j, by omega⟩ k
  q1_at : ∀ (j : Fin 384) k, q1 (ix3 0 j k) = A.w1 e ⟨384 + j, by omega⟩ k
  q2_at : ∀ (j : Fin 384) k, q2 (ix3 0 j k) = A.w1 e ⟨768 + j, by omega⟩ k
  q3_at : ∀ (j : Fin 384) k, q3 (ix3 0 j k) = A.w1 e ⟨1152 + j, by omega⟩ k
  c0_at : ∀ n j, c0 (ix3 0 n j) = A.w2 e n (lowPair j)
  c1_at : ∀ n j, c1 (ix3 0 n j) = A.w2 e n (highPair j)

/-- A quarter's rows are the hidden layer's. -/
theorem quarter_eq {A : Arrays} {e : Fin 16} {off : ℕ} {hoff : off ≤ 1152} {n : Vec Ideal S768x128 .f32} {b : Vec Ideal S1x1536 .f32}
    {w : Vec Ideal S1x384x768 .f32} (hn : ∀ k t, n (ix2 k t) = A.normed t k) (hb : ∀ r, b (ix2 0 r) = A.b1 e r)
    (hw : ∀ (j : Fin 384) k, w (ix3 0 j k) = A.w1 e ⟨off + j, by omega⟩ k) (j : Fin 384) (t : Fin 128) :
    quarter off hoff n b w j t = A.hidden e ⟨off + j, by omega⟩ t := by
  unfold quarter
  simp only [hn, hb, hw]
  rfl

/-- The accumulator gains the expert's output times its weight. -/
theorem step_eq {A : Arrays} {e : Fin 16} {q0 q1 q2 q3 : Vec Ideal S1x384x768 .f32} {c0 c1 : Vec Ideal S1x768x384 .f32}
    (h : ExpertBlocks A e q0 q1 q2 q3 c0 c1) {wrow : Vec Ideal S1x128 .f32} {b : Vec Ideal S1x768 .f32}
    {e0 o0 e1 o1 : Vec Ideal S384x128 .f32} (acc : Vec Ideal S768x128 .f32)
    (hwrow : ∀ t, wrow (ix2 0 t) = A.weight t e) (hb : ∀ n, b (ix2 0 n) = A.b2 e n)
    (he0 : ∀ j t, e0 (ix2 j t) = A.hidden e (evenRow (lowPair j)) t)
    (ho0 : ∀ j t, o0 (ix2 j t) = A.hidden e (oddRow (lowPair j)) t)
    (he1 : ∀ j t, e1 (ix2 j t) = A.hidden e (evenRow (highPair j)) t)
    (ho1 : ∀ j t, o1 (ix2 j t) = A.hidden e (oddRow (highPair j)) t) (n : Fin 768) (t : Fin 128) :
    step wrow b e0 o0 c0 e1 o1 c1 acc n t = acc (ix2 n t) + A.weight t e * A.expert e n t := by
  unfold step
  simp only [hwrow, hb, he0, ho0, he1, ho1, h.c0_at, h.c1_at]
  rw [show A.expert e n t = ∑ j, A.w2 e n j * A.act e j t + A.b2 e n from rfl, sum_pairs, add_comm _ (A.b2 e n), ← add_assoc]
  rfl

end Cert.Moe
-- ==== Proof.Rounds.lean ====
/-
  One round of the kernel's selection, on a row of sixteen scores: the maximum over the row, then the least index
  that attains it as a minimum of 32-bit words.
-/
module

public import proofs.«01_k».proof.Proof.FirstTwo
public import Idealize.ShloMosaic.PureOps.Reduce

@[expose] public section

namespace Cert.Moe

open Idealize.ShloMosaic

/-- The word of minus infinity. -/
theorem bits_bot : Ideal.ofBits .f32 0xFF800000#32 = ⊥ := by
  simp [Ideal.ofBits, Ideal.ieee]

/-- The running maximum from the least element is the first greatest entry. -/
theorem fold_max {n : ℕ} {f : Fin n → EReal} {i : Fin n} (h : FirstMax f i) :
    Finset.fold max (Ideal.ofBits .f32 0xFF800000#32) f Finset.univ = f i := by
  rw [bits_bot]
  refine le_antisymm ?_ ?_
  · exact Finset.fold_max_le _ |>.mpr ⟨bot_le, fun k _ => h.1 k⟩
  · exact Finset.le_fold_max _ |>.mpr (.inr ⟨i, Finset.mem_univ _, le_rfl⟩)

/-- The signed minimum of two words is the minimum of their values. -/
theorem toInt_minsi (a b : BitVec 32) : (IntOp.minsi a b).toInt = min a.toInt b.toInt := by
  unfold IntOp.minsi
  rcases le_total a.toInt b.toInt with h | h
  · simp only [BitVec.slt_iff_toInt_lt]
    split <;> omega
  · simp only [BitVec.slt_iff_toInt_lt]
    split <;> omega

/-- A small number's word has the number's value. -/
theorem toInt_small {k : ℕ} (h : k ≤ 16) : (BitVec.ofNat 32 k).toInt = k := by
  rw [BitVec.toInt_eq_toNat_of_lt, BitVec.toNat_ofNat, Nat.mod_eq_of_lt (by omega)]
  rw [BitVec.toNat_ofNat, Nat.mod_eq_of_lt (by omega)]; omega

/-- The least index word among the places that attain the maximum is the first greatest entry's. -/
theorem fold_minsi {f : Fin 16 → EReal} {i : Fin 16} (h : FirstMax f i) :
    Finset.fold IntOp.minsi (2147483647#32) (fun k => if f k = f i then BitVec.ofNat 32 k.val else 16#32) Finset.univ
      = BitVec.ofNat 32 i.val := by
  apply BitVec.eq_of_toInt_eq
  rw [toInt_small i.isLt.le]
  refine le_antisymm ?_ ?_
  · have := (Finset.fold_op_rel_iff_or (op := IntOp.minsi) (r := fun c x : BitVec 32 => x.toInt ≤ c.toInt)
      (c := BitVec.ofNat 32 i.val) (b := 2147483647#32) (s := Finset.univ)
      (f := fun k : Fin 16 => if f k = f i then BitVec.ofNat 32 k.val else 16#32)
      (fun {x y z} => by rw [toInt_minsi]; exact min_le_iff)).mpr
      (.inr ⟨i, Finset.mem_univ _, by simp⟩)
    rwa [toInt_small i.isLt.le] at this
  · have := (Finset.fold_op_rel_iff_and (op := IntOp.minsi) (r := fun c x : BitVec 32 => c.toInt ≤ x.toInt)
      (c := BitVec.ofNat 32 i.val) (b := 2147483647#32) (s := Finset.univ)
      (f := fun k : Fin 16 => if f k = f i then BitVec.ofNat 32 k.val else 16#32)
      (fun {x y z} => by rw [toInt_minsi]; exact le_min_iff)).mpr
      ⟨by rw [toInt_small i.isLt.le]; have := i.isLt; simp; omega, fun k _ => by
        split
        · next hk =>
          rw [toInt_small i.isLt.le, toInt_small k.isLt.le]
          exact_mod_cast h.2 k hk
        · rw [toInt_small i.isLt.le, show (16#32 : BitVec 32).toInt = 16 by decide]
          have := i.isLt; omega⟩
    rwa [toInt_small i.isLt.le] at this

/-- An index word meets the chosen one exactly at the chosen place. -/
theorem cmpi_index (e i : Fin 16) :
    IntOp.cmpi .eq (BitVec.ofNat 32 e.val) (BitVec.ofNat 32 i.val) = if e = i then 1#1 else 0#1 := by
  revert e i; decide

end Cert.Moe
-- ==== Proof.Router.lean ====
/-
  What the kernel's first grid step computes from its blocks of tokens, scale and router: the normalized tokens, the
  experts' scores, the two rounds of selection, and the table of weights, each at an index.
-/
module

public import proofs.«01_k».proof.Proof.Spec
public import proofs.«01_k».proof.Proof.Rounds
public import proofs.«01_k».proof.Proof.Gen.KernelIdeal.Skeleton
public import Idealize.ShloMosaic.Lib.Pointwise

@[expose] public section

set_option maxRecDepth 16384

namespace Cert.Moe

open Idealize.ShloMosaic Cert.KernelIdeal Cert.KernelIdeal.Gen

/-- The blocks the router reads hold the arrays. -/
structure RouterBlocks (A : Arrays) (x : Vec Ideal S128x768 .f32) (s : Vec Ideal S1x768 .f32) (w : Vec Ideal S16x768 .f32)
    (b : Vec Ideal S1x16 .f32) : Prop where
  x_at : ∀ t k, x (ix2 t k) = A.x t k
  s_at : ∀ k, s (ix2 0 k) = A.scale k
  w_at : ∀ e k, w (ix2 e k) = A.gateW e k
  b_at : ∀ e, b (ix2 0 e) = A.gateB e

namespace RouterBlocks

variable {A : Arrays} {x : Vec Ideal S128x768 .f32} {s : Vec Ideal S1x768 .f32} {w : Vec Ideal S16x768 .f32} {b : Vec Ideal S1x16 .f32}

/-- The normalized tokens, before they are stored. -/
theorem normed (h : RouterBlocks A x s w b) (k : Fin 768) (t : Fin 128) : k0_pay4 x s (ix2 k t) = A.normed t k := by
  pointwise [k0_pay4, k0_pay3]
  simp only [h.x_at, h.s_at]
  rfl

/-- The normalized tokens, as the first scratch holds them. -/
theorem normed_stored (h : RouterBlocks A x s w b) (k : Fin 768) (t : Fin 128) : k0_pay5 x s (ix2 k t) = A.normed t k := by
  rw [← h.normed]; pointwise [k0_pay5]

/-- The scores. -/
theorem score (h : RouterBlocks A x s w b) (e : Fin 16) (t : Fin 128) : k0_pay6 x s w b (ix2 e t) = A.score t e := by
  pointwise [k0_pay6]
  simp only [h.normed, h.w_at, h.b_at]
  rfl

/-- Each token's greatest score. -/
theorem max_score (h : RouterBlocks A x s w b) (t : Fin 128) : k0_pay7 x s w b (ix2 0 t) = A.score t (A.best t) := by
  pointwise [k0_pay7]
  simp only [h.score]
  exact fold_max (A.firstMax_best t)

/-- The table of where the first greatest score stands. -/
theorem is_best (h : RouterBlocks A x s w b) (e : Fin 16) (t : Fin 128) :
    k0_pay8 x s w b (ix2 e t) = if e = A.best t then 1#1 else 0#1 := by
  pointwise [k0_pay8]
  simp only [h.score, h.max_score]
  rw [← cmpi_index, ← fold_minsi (A.firstMax_best t)]

/-- The scores, the greatest taken out. -/
theorem left_over (h : RouterBlocks A x s w b) (e : Fin 16) (t : Fin 128) :
    k0_pay9 x s w b (ix2 e t) = without (A.score t) (A.best t) e := by
  pointwise [k0_pay9]
  simp only [h.score, h.is_best, bits_bot]
  unfold without
  split <;> rfl

/-- The table of weights the first grid step leaves. -/
theorem weight (h : RouterBlocks A x s w b) (hA : A.Bounded) (v : IVec S16x128 32) (hv : ∀ e t, v (ix2 e t) = BitVec.ofNat 32 e.val)
    (e : Fin 16) (t : Fin 128) :
    k0_pay10 v (k0_pay7 x s w b) (k0_pay8 x s w b) (k0_pay9 x s w b) (ix2 e t) = A.weight t e := by
  pointwise [k0_pay10]
  simp only [h.max_score, h.is_best, h.left_over, hv]
  rw [fold_max (A.firstMax_second t)]
  rw [fold_minsi (A.firstMax_second t), cmpi_index]
  rw [show without (A.score t) (A.best t) (A.second t) = A.score t (A.second t) from if_neg (hA.second_ne_best t)]
  unfold Arrays.weight share
  congr 1 <;> split <;> rfl

/-- The tokens, transposed, the accumulator's first contents. -/
theorem tokens (h : RouterBlocks A x s w b) (n : Fin 768) (t : Fin 128) : k0_pay11 (k0_pay3 x) (ix2 n t) = A.x t n := by
  pointwise [k0_pay11, k0_pay3]
  exact h.x_at t n

end RouterBlocks

end Cert.Moe
-- ==== Proof.Blocks.lean ====
/-
  What the kernel's windows hold at a grid point: the tokens, the scale and the router's arrays whole, and the weights of
  the point's two experts, in quarters of their rows and halves of their columns.
-/
module

public import proofs.«01_k».proof.Proof.Scratch
public import proofs.«01_k».proof.Proof.OneExpert
public import proofs.«01_k».proof.Proof.Router
public import proofs.«01_k».proof.Proof.Gen.KernelIdeal.Frame
public import Idealize.ShloMosaic.Lib.Pipeline.ValueKit

@[expose] public section

set_option maxRecDepth 16384

noncomputable section

namespace Cert.Moe

open Idealize.ShloMosaic Idealize.ShloMosaic.TcCoe Cert.KernelIdeal Cert.KernelIdeal.Gen

/-- The eight arrays, read off the arguments' buffers. -/
def arraysOf (x : Vec Ideal S128x768 .f32) (s : Vec Ideal S768 .f32) (gw : Vec Ideal S16x768 .f32) (gb : Vec Ideal S16 .f32)
    (w1 : Vec Ideal S16x1536x768 .f32) (b1 : Vec Ideal S16x1536 .f32) (w2 : Vec Ideal S16x768x768 .f32) (b2 : Vec Ideal S16x768 .f32) :
    Arrays where
  x t k := x (ix2 t k)
  scale k := s (ix1 k)
  gateW e k := gw (ix2 e k)
  gateB e := gb (ix1 e)
  w1 e r k := w1 (ix3 e r k)
  b1 e r := b1 (ix2 e r)
  w2 e n j := w2 (ix3 e n j)
  b2 e n := b2 (ix2 e n)

variable (m : (ℓ : Loc nD τ sig) → Buf (Elt Ideal) ℓ) (c : Dev nD)

/-- The eight arrays the kernel is given. -/
abbrev given : Arrays :=
  arraysOf (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7))

/-- The windows that hold a whole array stay at its first block. -/
theorem whole_index : ∀ t : Fin cfg0.N, win0_0.index t = ![0, 0] ∧ win0_1.index t = ![0, 0] ∧ win0_2.index t = ![0, 0]
    ∧ win0_3.index t = ![0, 0] ∧ win0_16.index t = ![0, 0] ∧ win0_17.index t = ![0, 0] :=
  (by decide +kernel : ∀ t : Fin grid0.N, _)

/-- Where the windows of the point's first expert stand. -/
theorem first_index : ∀ t : Fin cfg0.N, win0_4.index t = ![(firstExpert (grid0.coords t)).val, 0, 0]
    ∧ win0_5.index t = ![(firstExpert (grid0.coords t)).val, 1, 0] ∧ win0_6.index t = ![(firstExpert (grid0.coords t)).val, 2, 0]
    ∧ win0_7.index t = ![(firstExpert (grid0.coords t)).val, 3, 0] ∧ win0_8.index t = ![(firstExpert (grid0.coords t)).val, 0, 0]
    ∧ win0_9.index t = ![(firstExpert (grid0.coords t)).val, 0, 1] :=
  (by decide +kernel : ∀ t : Fin grid0.N, _)

/-- Where the windows of the point's second expert stand. -/
theorem second_index : ∀ t : Fin cfg0.N, win0_10.index t = ![(secondExpert (grid0.coords t)).val, 0, 0]
    ∧ win0_11.index t = ![(secondExpert (grid0.coords t)).val, 1, 0] ∧ win0_12.index t = ![(secondExpert (grid0.coords t)).val, 2, 0]
    ∧ win0_13.index t = ![(secondExpert (grid0.coords t)).val, 3, 0] ∧ win0_14.index t = ![(secondExpert (grid0.coords t)).val, 0, 0]
    ∧ win0_15.index t = ![(secondExpert (grid0.coords t)).val, 0, 1] :=
  (by decide +kernel : ∀ t : Fin grid0.N, _)

variable (t : Fin cfg0.N)

/-- The router's windows hold its arrays. -/
theorem router_blocks : RouterBlocks (given m c) (iblk m c 0 t) (iblk m c 1 t) (iblk m c 2 t) (iblk m c 3 t) := by
  obtain ⟨e0, e1, e2, e3, -, -⟩ := whole_index t
  constructor
  · intro r k
    show iblk m c 0 t (ix2 r k) = m ((c : Thread nD τ).loc main_arg0) (ix2 r k)
    blk_ext [iblk, V_main_arg0, e0]
  · intro k
    show iblk m c 1 t (ix2 0 k) = m ((c : Thread nD τ).loc main_arg1) (ix1 k)
    blk_simp [iblk]
    entry_read
    pointwise
    blk_ext [e1]
  · intro e k
    show iblk m c 2 t (ix2 e k) = m ((c : Thread nD τ).loc main_arg2) (ix2 e k)
    blk_ext [iblk, V_main_arg2, e2]
  · intro e
    show iblk m c 3 t (ix2 0 e) = m ((c : Thread nD τ).loc main_arg3) (ix1 e)
    blk_simp [iblk]
    entry_read
    pointwise
    blk_ext [e3]

/-- The window of the first biases holds them whole. -/
theorem b1_block (e : Fin 16) (r : Fin 1536) : iblk m c 16 t (ix2 e r) = (given m c).b1 e r := by
  obtain ⟨-, -, -, -, e16, -⟩ := whole_index t
  show iblk m c 16 t (ix2 e r) = m ((c : Thread nD τ).loc main_arg5) (ix2 e r)
  blk_ext [iblk, V_main_arg5, e16]

/-- The window of the second biases holds them whole. -/
theorem b2_block (e : Fin 16) (n : Fin 768) : iblk m c 17 t (ix2 e n) = (given m c).b2 e n := by
  obtain ⟨-, -, -, -, -, e17⟩ := whole_index t
  show iblk m c 17 t (ix2 e n) = m ((c : Thread nD τ).loc main_arg7) (ix2 e n)
  blk_ext [iblk, V_main_arg7, e17]

/-- The six windows of the point's first expert hold its weights. -/
theorem first_blocks : ExpertBlocks (given m c) (firstExpert (grid0.coords t)) (iblk m c 4 t) (iblk m c 5 t) (iblk m c 6 t) (iblk m c 7 t) (iblk m c 8 t) (iblk m c 9 t) := by
  obtain ⟨e0, e1, e2, e3, e4, e5⟩ := first_index t
  constructor
  · intro j k
    show iblk m c 4 t (ix3 0 j k) = m ((c : Thread nD τ).loc main_arg4) (ix3 (firstExpert (grid0.coords t)) ⟨0 + j, by omega⟩ k)
    blk_ext [iblk, V_main_arg4, e0]
  · intro j k
    show iblk m c 5 t (ix3 0 j k) = m ((c : Thread nD τ).loc main_arg4) (ix3 (firstExpert (grid0.coords t)) ⟨384 + j, by omega⟩ k)
    blk_ext [iblk, V_main_arg4, e1]
  · intro j k
    show iblk m c 6 t (ix3 0 j k) = m ((c : Thread nD τ).loc main_arg4) (ix3 (firstExpert (grid0.coords t)) ⟨768 + j, by omega⟩ k)
    blk_ext [iblk, V_main_arg4, e2]
  · intro j k
    show iblk m c 7 t (ix3 0 j k) = m ((c : Thread nD τ).loc main_arg4) (ix3 (firstExpert (grid0.coords t)) ⟨1152 + j, by omega⟩ k)
    blk_ext [iblk, V_main_arg4, e3]
  · intro n j
    show iblk m c 8 t (ix3 0 n j) = m ((c : Thread nD τ).loc main_arg6) (ix3 (firstExpert (grid0.coords t)) n (lowPair j))
    unfold lowPair
    blk_ext [iblk, V_main_arg6, e4]
  · intro n j
    show iblk m c 9 t (ix3 0 n j) = m ((c : Thread nD τ).loc main_arg6) (ix3 (firstExpert (grid0.coords t)) n (highPair j))
    unfold highPair
    blk_ext [iblk, V_main_arg6, e5]

/-- The six windows of the point's second expert hold its weights. -/
theorem second_blocks : ExpertBlocks (given m c) (secondExpert (grid0.coords t)) (iblk m c 10 t) (iblk m c 11 t) (iblk m c 12 t) (iblk m c 13 t) (iblk m c 14 t) (iblk m c 15 t) := by
  obtain ⟨e0, e1, e2, e3, e4, e5⟩ := second_index t
  constructor
  · intro j k
    show iblk m c 10 t (ix3 0 j k) = m ((c : Thread nD τ).loc main_arg4) (ix3 (secondExpert (grid0.coords t)) ⟨0 + j, by omega⟩ k)
    blk_ext [iblk, V_main_arg4, e0]
  · intro j k
    show iblk m c 11 t (ix3 0 j k) = m ((c : Thread nD τ).loc main_arg4) (ix3 (secondExpert (grid0.coords t)) ⟨384 + j, by omega⟩ k)
    blk_ext [iblk, V_main_arg4, e1]
  · intro j k
    show iblk m c 12 t (ix3 0 j k) = m ((c : Thread nD τ).loc main_arg4) (ix3 (secondExpert (grid0.coords t)) ⟨768 + j, by omega⟩ k)
    blk_ext [iblk, V_main_arg4, e2]
  · intro j k
    show iblk m c 13 t (ix3 0 j k) = m ((c : Thread nD τ).loc main_arg4) (ix3 (secondExpert (grid0.coords t)) ⟨1152 + j, by omega⟩ k)
    blk_ext [iblk, V_main_arg4, e3]
  · intro n j
    show iblk m c 14 t (ix3 0 n j) = m ((c : Thread nD τ).loc main_arg6) (ix3 (secondExpert (grid0.coords t)) n (lowPair j))
    unfold lowPair
    blk_ext [iblk, V_main_arg6, e4]
  · intro n j
    show iblk m c 15 t (ix3 0 n j) = m ((c : Thread nD τ).loc main_arg6) (ix3 (secondExpert (grid0.coords t)) n (highPair j))
    unfold highPair
    blk_ext [iblk, V_main_arg6, e5]

end Cert.Moe

end
-- ==== Proof.Pair.lean ====
/-
  One grid point's two experts, as one term over the point's blocks, and what it adds to the accumulator.
-/
module

public import proofs.«01_k».proof.Proof.Scratch
public import proofs.«01_k».proof.Proof.OneExpert

@[expose] public section

set_option maxRecDepth 16384

noncomputable section

namespace Cert.Moe

open Idealize.ShloMosaic Cert.KernelIdeal Cert.KernelIdeal.Gen

section
variable (i : grid0.Coords) (u v : View sig .tc .vmem S768x128 .f32) (n : Vec Ideal S768x128 .f32) (wmap : Vec Ideal S16x128 .f32)
  (b1 : Vec Ideal S16x1536 .f32) (b2 : Vec Ideal S16x768 .f32)
  (h1 : ∀ a, k0_off1 i a + (![1, 1536] : Fin 2 → ℕ) a ≤ S16x1536.size a)
  (h2 : ∀ a, k0_off2 i a + (![1, 768] : Fin 2 → ℕ) a ≤ S16x768.size a)
  (h3 : ∀ a, k0_off3 i a + (![1, 128] : Fin 2 → ℕ) a ≤ S16x128.size a)
  (h4 : ∀ a, k0_off4 i a + (![1, 1536] : Fin 2 → ℕ) a ≤ S16x1536.size a)
  (h5 : ∀ a, k0_off5 i a + (![1, 768] : Fin 2 → ℕ) a ≤ S16x768.size a)
  (h6 : ∀ a, k0_off6 i a + (![1, 128] : Fin 2 → ℕ) a ≤ S16x128.size a)
  (p0 p1 p2 p3 : Vec Ideal S1x384x768 .f32) (d0 d1 : Vec Ideal S1x768x384 .f32)
  (q0 q1 q2 q3 : Vec Ideal S1x384x768 .f32) (e0 e1 : Vec Ideal S1x768x384 .f32) (acc : Vec Ideal S768x128 .f32)

/-- The even rows of a scratch, as the kernel loads them. -/
def evens (w : View sig .tc .vmem S768x128 .f32) (L : List (View.Piece (Elt Ideal) S768x128 .f32)) : Vec Ideal S384x128 .f32 :=
  w.readCov L { off := ![0, 0], size := ![384, 128], stride := ![2, 1], inb := inb_S768x128_S384x128_0_0_s_2_1 }

/-- The odd rows of a scratch, as the kernel loads them. -/
def odds (w : View sig .tc .vmem S768x128 .f32) (L : List (View.Piece (Elt Ideal) S768x128 .f32)) : Vec Ideal S384x128 .f32 :=
  w.readCov L { off := ![1, 0], size := ![384, 128], stride := ![2, 1], inb := inb_S768x128_S384x128_1_0_s_2_1 }

/-- The stores of the first expert's first two quarters. -/
def lowFirst : List (View.Piece (Elt Ideal) S768x128 .f32) :=
  halves (k0_pay14 n (View.ld b1 (Rect.unit (k0_off1 i) ![1, 1536] h1)) p0)
    (k0_pay15 n (View.ld b1 (Rect.unit (k0_off1 i) ![1, 1536] h1)) p1) []

/-- The stores of the first expert's last two quarters. -/
def highFirst : List (View.Piece (Elt Ideal) S768x128 .f32) :=
  halves (k0_pay18 n (k0_pay12 (View.ld b1 (Rect.unit (k0_off1 i) ![1, 1536] h1))) p2)
    (k0_pay19 n (k0_pay12 (View.ld b1 (Rect.unit (k0_off1 i) ![1, 1536] h1))) p3) []

/-- The stores of the second expert's first two quarters, over `L`. -/
def lowSecond (L : List (View.Piece (Elt Ideal) S768x128 .f32)) : List (View.Piece (Elt Ideal) S768x128 .f32) :=
  halves (k0_pay23 n (k0_pay21 (View.ld b1 (Rect.unit (k0_off4 i) ![1, 1536] h4))) q0)
    (k0_pay24 n (k0_pay21 (View.ld b1 (Rect.unit (k0_off4 i) ![1, 1536] h4))) q1) L

/-- The stores of the second expert's last two quarters, over `L`. -/
def highSecond (L : List (View.Piece (Elt Ideal) S768x128 .f32)) : List (View.Piece (Elt Ideal) S768x128 .f32) :=
  halves (k0_pay28 n (k0_pay21 (View.ld b1 (Rect.unit (k0_off4 i) ![1, 1536] h4))) q2)
    (k0_pay29 n (k0_pay21 (View.ld b1 (Rect.unit (k0_off4 i) ![1, 1536] h4))) q3) L

/-- The accumulator after the first expert. -/
def afterFirst : Vec Ideal S768x128 .f32 :=
  k0_pay20 (View.ld wmap (Rect.unit (k0_off3 i) ![1, 128] h3))
    (k0_pay17 (k0_pay13 (View.ld b2 (Rect.unit (k0_off2 i) ![1, 768] h2))) (evens u (lowFirst i n b1 h1 p0 p1)) k0_pay16
      (odds u (lowFirst i n b1 h1 p0 p1)) d0)
    (evens v (highFirst i n b1 h1 p2 p3)) (odds v (highFirst i n b1 h1 p2 p3)) d1 acc

/-- The accumulator after both experts. -/
def afterBoth : Vec Ideal S768x128 .f32 :=
  k0_pay1 (View.ld wmap (Rect.unit (k0_off6 i) ![1, 128] h6))
    (k0_pay27 (k0_pay22 (View.ld b2 (Rect.unit (k0_off5 i) ![1, 768] h5)))
      (k0_pay25 (evens u (lowSecond i n b1 h4 q0 q1 (lowFirst i n b1 h1 p0 p1))) (odds u (lowSecond i n b1 h4 q0 q1 (lowFirst i n b1 h1 p0 p1))))
      (k0_pay26 e0))
    (k0_pay30 (evens v (highSecond i n b1 h4 q2 q3 (highFirst i n b1 h1 p2 p3))) (odds v (highSecond i n b1 h4 q2 q3 (highFirst i n b1 h1 p2 p3))))
    e1 (afterFirst i u v n wmap b1 b2 h1 h2 h3 p0 p1 p2 p3 d0 d1 acc)

variable {i u v n wmap b1 b2 h1 h2 h3 h4 h5 h6 p0 p1 p2 p3 d0 d1 q0 q1 q2 q3 e0 e1 acc} {A : Arrays}

/-- The rows of the four quarters, two and two, as rows of one scratch each: the hidden layer's first and last half. -/
theorem low_rows {e : Fin 16} {b : Vec Ideal S1x1536 .f32} {w w' : Vec Ideal S1x384x768 .f32} {p q : Vec Ideal S384x128 .f32}
    (hn : ∀ k t, n (ix2 k t) = A.normed t k) (hb : ∀ r, b (ix2 0 r) = A.b1 e r)
    (hw : ∀ (j : Fin 384) k, w (ix3 0 j k) = A.w1 e ⟨0 + j, by omega⟩ k) (hw' : ∀ (j : Fin 384) k, w' (ix3 0 j k) = A.w1 e ⟨384 + j, by omega⟩ k)
    (hp : ∀ j t, p (ix2 j t) = quarter 0 (by omega) n b w j t) (hq : ∀ j t, q (ix2 j t) = quarter 384 (by omega) n b w' j t)
    (w : View sig .tc .vmem S768x128 .f32) (L : List (View.Piece (Elt Ideal) S768x128 .f32)) :
    (∀ j t, evens w (halves p q L) (ix2 j t) = A.hidden e (evenRow (lowPair j)) t)
      ∧ ∀ j t, odds w (halves p q L) (ix2 j t) = A.hidden e (oddRow (lowPair j)) t := by
  have h0 : ∀ (j : Fin 384) t, p (ix2 j t) = A.hidden e ⟨(⟨j.val, by omega⟩ : Fin 768).val, by omega⟩ t := fun j t =>
    ((hp j t).trans (quarter_eq hn hb hw j t)).trans (congrArg (A.hidden e · t) (Fin.ext (Nat.zero_add _)))
  have h1 : ∀ (j : Fin 384) t, q (ix2 j t) = A.hidden e ⟨(⟨384 + j.val, by omega⟩ : Fin 768).val, by omega⟩ t := fun j t =>
    (hq j t).trans (quarter_eq hn hb hw' j t)
  exact ⟨even_back (f := fun r t => A.hidden e ⟨r, by omega⟩ t) h0 h1, odd_back (f := fun r t => A.hidden e ⟨r, by omega⟩ t) h0 h1⟩

/-- The same for the second half of the rows. -/
theorem high_rows {e : Fin 16} {b : Vec Ideal S1x1536 .f32} {w w' : Vec Ideal S1x384x768 .f32} {p q : Vec Ideal S384x128 .f32}
    (hn : ∀ k t, n (ix2 k t) = A.normed t k) (hb : ∀ r, b (ix2 0 r) = A.b1 e r)
    (hw : ∀ (j : Fin 384) k, w (ix3 0 j k) = A.w1 e ⟨768 + j, by omega⟩ k) (hw' : ∀ (j : Fin 384) k, w' (ix3 0 j k) = A.w1 e ⟨1152 + j, by omega⟩ k)
    (hp : ∀ j t, p (ix2 j t) = quarter 768 (by omega) n b w j t) (hq : ∀ j t, q (ix2 j t) = quarter 1152 (by omega) n b w' j t)
    (w : View sig .tc .vmem S768x128 .f32) (L : List (View.Piece (Elt Ideal) S768x128 .f32)) :
    (∀ j t, evens w (halves p q L) (ix2 j t) = A.hidden e (evenRow (highPair j)) t)
      ∧ ∀ j t, odds w (halves p q L) (ix2 j t) = A.hidden e (oddRow (highPair j)) t := by
  have h0 : ∀ (j : Fin 384) t, p (ix2 j t) = A.hidden e ⟨768 + (⟨j.val, by omega⟩ : Fin 768).val, by omega⟩ t := fun j t =>
    (hp j t).trans (quarter_eq hn hb hw j t)
  have h1 : ∀ (j : Fin 384) t, q (ix2 j t) = A.hidden e ⟨768 + (⟨384 + j.val, by omega⟩ : Fin 768).val, by omega⟩ t := fun j t =>
    ((hq j t).trans (quarter_eq hn hb hw' j t)).trans
      (congrArg (A.hidden e · t) (Fin.ext (show 1152 + j.val = 768 + (384 + j.val) by omega)))
  refine ⟨fun j t => (even_back (f := fun r t => A.hidden e ⟨768 + r, by omega⟩ t) h0 h1 j t).trans (congrArg (A.hidden e · t) (Fin.ext ?_)),
    fun j t => (odd_back (f := fun r t => A.hidden e ⟨768 + r, by omega⟩ t) h0 h1 j t).trans (congrArg (A.hidden e · t) (Fin.ext ?_))⟩
  · show 768 + 2 * j.val = 2 * (384 + j.val)
    omega
  · show 768 + (2 * j.val + 1) = 2 * (384 + j.val) + 1
    omega

/-- What the first expert adds. -/
theorem afterFirst_at (hn : ∀ k t, n (ix2 k t) = A.normed t k) (hw : ∀ e t, wmap (ix2 e t) = A.weight t e)
    (hb1 : ∀ e r, b1 (ix2 e r) = A.b1 e r) (hb2 : ∀ e r, b2 (ix2 e r) = A.b2 e r)
    (hp : ExpertBlocks A (firstExpert i) p0 p1 p2 p3 d0 d1) (k : Fin 768) (t : Fin 128) :
    afterFirst i u v n wmap b1 b2 h1 h2 h3 p0 p1 p2 p3 d0 d1 acc (ix2 k t)
      = acc (ix2 k t) + A.weight t (firstExpert i) * A.expert (firstExpert i) k t := by
  have hb : ∀ r, View.ld b1 (Rect.unit (k0_off1 i) ![1, 1536] h1) (ix2 0 r) = A.b1 (firstExpert i) r := fun r =>
    (row_at b1 _ h1 _ (off1_at i) rfl r).trans (hb1 _ _)
  have low := low_rows hn hb hp.q0_at hp.q1_at (quarter_14 _ _ _) (quarter_15 _ _ _) u []
  have high := high_rows hn hb hp.q2_at hp.q3_at (quarter_18 _ _ _) (quarter_19 _ _ _) v []
  unfold afterFirst
  rw [step_first]
  exact step_eq hp acc (fun t => (row_at wmap _ h3 _ (off3_at i) rfl t).trans (hw _ _))
    (fun r => (row_at b2 _ h2 _ (off2_at i) rfl r).trans (hb2 _ _)) low.1 low.2 high.1 high.2 k t

/-- What both experts add. -/
theorem afterBoth_at (hn : ∀ k t, n (ix2 k t) = A.normed t k) (hw : ∀ e t, wmap (ix2 e t) = A.weight t e)
    (hb1 : ∀ e r, b1 (ix2 e r) = A.b1 e r) (hb2 : ∀ e r, b2 (ix2 e r) = A.b2 e r)
    (hp : ExpertBlocks A (firstExpert i) p0 p1 p2 p3 d0 d1) (hq : ExpertBlocks A (secondExpert i) q0 q1 q2 q3 e0 e1)
    (k : Fin 768) (t : Fin 128) :
    afterBoth i u v n wmap b1 b2 h1 h2 h3 h4 h5 h6 p0 p1 p2 p3 d0 d1 q0 q1 q2 q3 e0 e1 acc (ix2 k t)
      = acc (ix2 k t) + A.weight t (firstExpert i) * A.expert (firstExpert i) k t
        + A.weight t (secondExpert i) * A.expert (secondExpert i) k t := by
  have hb : ∀ r, View.ld b1 (Rect.unit (k0_off4 i) ![1, 1536] h4) (ix2 0 r) = A.b1 (secondExpert i) r := fun r =>
    (row_at b1 _ h4 _ (off4_at i) rfl r).trans (hb1 _ _)
  have low := low_rows hn hb hq.q0_at hq.q1_at (quarter_23 _ _ _) (quarter_24 _ _ _) u (lowFirst i n b1 h1 p0 p1)
  have high := high_rows hn hb hq.q2_at hq.q3_at (quarter_28 _ _ _) (quarter_29 _ _ _) v (highFirst i n b1 h1 p2 p3)
  unfold afterBoth
  rw [step_second]
  refine (step_eq hq _ (fun t => (row_at wmap _ h6 _ (off6_at i) rfl t).trans (hw _ _))
    (fun r => (row_at b2 _ h5 _ (off5_at i) rfl r).trans (hb2 _ _)) low.1 low.2 high.1 high.2 k t).trans ?_
  rw [afterFirst_at hn hw hb1 hb2 hp]

end

end Cert.Moe
-- ==== Proof.Opened.lean ====
/-
  Each case of a grid point, opened: what it leaves in the scratch carried on and in the result's block.
-/
module

public import proofs.«01_k».proof.Proof.Pair
public import proofs.«01_k».proof.Proof.Gen.KernelIdeal.Frame
public import Idealize.ShloMosaic.Lib.Pipeline.ValueKit
public import Idealize.ShloMosaic.Lib.Pipeline.ReadBack

@[expose] public section

set_option maxRecDepth 16384

noncomputable section

namespace Cert.Moe

open Idealize.ShloMosaic Idealize.ShloMosaic.TcCoe Idealize.ShloMosaic.Tactic Cert.KernelIdeal Cert.KernelIdeal.Gen

variable (c : Dev nD) (i : grid0.Coords) (arg1 : Memref sig .tc .vmem S128x768 .f32) (harg1 : arg1.IsWhole) (arg2 : Memref sig .tc .vmem S1x768 .f32) (harg2 : arg2.IsWhole) (arg3 : Memref sig .tc .vmem S16x768 .f32) (harg3 : arg3.IsWhole) (arg4 : Memref sig .tc .vmem S1x16 .f32) (harg4 : arg4.IsWhole) (arg5 : Memref sig .tc .vmem S1x384x768 .f32) (harg5 : arg5.IsWhole) (arg6 : Memref sig .tc .vmem S1x384x768 .f32) (harg6 : arg6.IsWhole) (arg7 : Memref sig .tc .vmem S1x384x768 .f32) (harg7 : arg7.IsWhole) (arg8 : Memref sig .tc .vmem S1x384x768 .f32) (harg8 : arg8.IsWhole) (arg9 : Memref sig .tc .vmem S1x768x384 .f32) (harg9 : arg9.IsWhole) (arg10 : Memref sig .tc .vmem S1x768x384 .f32) (harg10 : arg10.IsWhole) (arg11 : Memref sig .tc .vmem S1x384x768 .f32) (harg11 : arg11.IsWhole) (arg12 : Memref sig .tc .vmem S1x384x768 .f32) (harg12 : arg12.IsWhole) (arg13 : Memref sig .tc .vmem S1x384x768 .f32) (harg13 : arg13.IsWhole) (arg14 : Memref sig .tc .vmem S1x384x768 .f32) (harg14 : arg14.IsWhole) (arg15 : Memref sig .tc .vmem S1x768x384 .f32) (harg15 : arg15.IsWhole) (arg16 : Memref sig .tc .vmem S1x768x384 .f32) (harg16 : arg16.IsWhole) (arg17 : Memref sig .tc .vmem S16x1536 .f32) (harg17 : arg17.IsWhole) (arg18 : Memref sig .tc .vmem S16x768 .f32) (harg18 : arg18.IsWhole) (arg19 : Memref sig .tc .vmem S128x768 .f32) (harg19 : arg19.IsWhole) (arg20 : Memref sig .tc .vmem S768x128 .f32) (harg20 : arg20.IsWhole) (arg21 : Memref sig .tc .vmem S768x128 .f32) (harg21 : arg21.IsWhole) (arg22 : Memref sig .tc .vmem S768x128 .f32) (harg22 : arg22.IsWhole) (arg23 : Memref sig .tc .vmem S16x128 .f32) (harg23 : arg23.IsWhole) (arg24 : Memref sig .tc .vmem S768x128 .f32) (harg24 : arg24.IsWhole)
  (x0 : Vec Ideal S128x768 .f32) (x1 : Vec Ideal S1x768 .f32) (x2 : Vec Ideal S16x768 .f32) (x3 : Vec Ideal S1x16 .f32) (x4 : Vec Ideal S1x384x768 .f32) (x5 : Vec Ideal S1x384x768 .f32) (x6 : Vec Ideal S1x384x768 .f32) (x7 : Vec Ideal S1x384x768 .f32) (x8 : Vec Ideal S1x768x384 .f32) (x9 : Vec Ideal S1x768x384 .f32) (x10 : Vec Ideal S1x384x768 .f32) (x11 : Vec Ideal S1x384x768 .f32) (x12 : Vec Ideal S1x384x768 .f32) (x13 : Vec Ideal S1x384x768 .f32) (x14 : Vec Ideal S1x768x384 .f32) (x15 : Vec Ideal S1x768x384 .f32) (x16 : Vec Ideal S16x1536 .f32) (x17 : Vec Ideal S16x768 .f32) (xs0 : Vec Ideal S768x128 .f32) (xs3 : Vec Ideal S16x128 .f32) (xs4 : Vec Ideal S768x128 .f32)
  (h1 : ∀ a, k0_off1 i a + (![1, 1536] : Fin 2 → ℕ) a ≤ S16x1536.size a)
  (h2 : ∀ a, k0_off2 i a + (![1, 768] : Fin 2 → ℕ) a ≤ S16x768.size a)
  (h3 : ∀ a, k0_off3 i a + (![1, 128] : Fin 2 → ℕ) a ≤ S16x128.size a)
  (h4 : ∀ a, k0_off4 i a + (![1, 1536] : Fin 2 → ℕ) a ≤ S16x1536.size a)
  (h5 : ∀ a, k0_off5 i a + (![1, 768] : Fin 2 → ℕ) a ≤ S16x768.size a)
  (h6 : ∀ a, k0_off6 i a + (![1, 128] : Fin 2 → ℕ) a ≤ S16x128.size a)

/-- The map of weights the first point stores, from its blocks. -/
def routed : Vec Ideal S16x128 .f32 :=
  k0_pay10 (iota Kind.tc S16x128 32 [0] iota_S16x128_d0_w32) (k0_pay7 x0 x1 x2 x3) (k0_pay8 x0 x1 x2 x3) (k0_pay9 x0 x1 x2 x3)

/-- The first point leaves the normalized tokens in the first scratch. -/
theorem tokens_A (hc0 : cond0_0 i) (hc1 : ¬cond0_1 i) (k : Fin 768) (t : Fin 128) :
    sout0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 x0 x1 x2 x3 x4 x5 x6 x7 x8 x9 x10 x11 x12 x13 x14 x15 x16 x17 (ix2 k t) = k0_pay5 x0 x1 (ix2 k t) := by
  frame_out

/-- The first point leaves the weights in the map. -/
theorem routed_A (hc0 : cond0_0 i) (hc1 : ¬cond0_1 i) (e : Fin 16) (t : Fin 128) :
    sout0_A_3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 x0 x1 x2 x3 x4 x5 x6 x7 x8 x9 x10 x11 x12 x13 x14 x15 x16 x17 (ix2 e t) = routed x0 x1 x2 x3 (ix2 e t) := by
  frame_open
  try simp (disch := decide) only [↓ View.readCov_skip, ↓ View.readCov_cons_toLoadRect, ↓ View.readCov_fill]
  frame_out
  rfl

/-- The first point leaves in the accumulator the tokens and its two experts' outputs. -/
theorem acc_A (hc0 : cond0_0 i) (hc1 : ¬cond0_1 i) (k : Fin 768) (t : Fin 128) :
    sout0_A_4 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 x0 x1 x2 x3 x4 x5 x6 x7 x8 x9 x10 x11 x12 x13 x14 x15 x16 x17 (ix2 k t)
      = afterBoth i arg21.view arg22.view (k0_pay5 x0 x1) (routed x0 x1 x2 x3) x16 x17 h1 h2 h3 h4 h5 h6 x4 x5 x6 x7 x8 x9 x10 x11 x12 x13 x14 x15 (k0_pay11 (k0_pay3 x0)) (ix2 k t) := by
  frame_open
  try simp (disch := decide) only [↓ View.readCov_skip, ↓ View.readCov_cons_toLoadRect, ↓ View.readCov_fill]
  frame_out
  rfl

/-- A middle point adds its two experts' outputs to the accumulator. -/
theorem acc_B (hc0 : ¬cond0_0 i) (hc1 : ¬cond0_1 i) (k : Fin 768) (t : Fin 128) :
    sout0_B_4 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 x0 x1 x2 x3 x4 x5 x6 x7 x8 x9 x10 x11 x12 x13 x14 x15 x16 x17 xs0 xs3 xs4 (ix2 k t)
      = afterBoth i arg21.view arg22.view xs0 xs3 x16 x17 h1 h2 h3 h4 h5 h6 x4 x5 x6 x7 x8 x9 x10 x11 x12 x13 x14 x15 xs4 (ix2 k t) := by
  frame_open
  try simp (disch := decide) only [↓ View.readCov_skip, ↓ View.readCov_cons_toLoadRect, ↓ View.readCov_fill]
  frame_out
  rfl

/-- The last point stores the accumulator, its two experts' outputs added, turned round. -/
theorem out_C (hc0 : ¬cond0_0 i) (hc1 : cond0_1 i) (k : Fin 768) (t : Fin 128) :
    out0_C_18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 x0 x1 x2 x3 x4 x5 x6 x7 x8 x9 x10 x11 x12 x13 x14 x15 x16 x17 xs0 xs3 xs4 (ix2 t k)
      = k0_pay2 (afterBoth i arg21.view arg22.view xs0 xs3 x16 x17 h1 h2 h3 h4 h5 h6 x4 x5 x6 x7 x8 x9 x10 x11 x12 x13 x14 x15 xs4) (ix2 t k) := by
  frame_open
  try simp (disch := decide) only [↓ View.readCov_skip, ↓ View.readCov_cons_toLoadRect, ↓ View.readCov_fill]
  frame_out
  rfl

end Cert.Moe
-- ==== Proof.Accum.lean ====
/-
  What the kernel carries from grid point to grid point, and its result: the normalized tokens, the map of weights and an
  accumulator, which after point `p` holds the token plus the weighted outputs of the first `2 (p + 1)` experts.
-/
module

public import proofs.«01_k».proof.Proof.Blocks
public import proofs.«01_k».proof.Proof.Opened
public import proofs.«01_k».proof.Proof.Gen.KernelIdeal.Value

@[expose] public section

set_option maxRecDepth 16384

noncomputable section

namespace Cert.Moe

open Idealize.ShloMosaic Idealize.ShloMosaic.TcCoe Cert.KernelIdeal Cert.KernelIdeal.Gen Cert.KernelIdeal.Value

/-- What expert `e` adds to the result, nothing from the sixteenth on. -/
def Arrays.added (A : Arrays) (t : Fin 128) (n : Fin 768) (e : ℕ) : EReal :=
  if h : e < 16 then A.weight t ⟨e, h⟩ * A.expert ⟨e, h⟩ n t else 0

/-- The token plus the weighted outputs of the first `p` experts. -/
def Arrays.partSum (A : Arrays) (p : ℕ) (t : Fin 128) (n : Fin 768) : EReal := A.x t n + ∑ e ∈ Finset.range p, A.added t n e

/-- Expert `e`'s share of the result, by its number. -/
theorem Arrays.added_of_val (A : Arrays) (t : Fin 128) (n : Fin 768) {e : Fin 16} {v : ℕ} (h : e.val = v) :
    A.weight t e * A.expert e n t = A.added t n v := by
  subst h; unfold Arrays.added; rw [dif_pos e.isLt]

/-- Two more experts. -/
theorem Arrays.partSum_two (A : Arrays) (p : ℕ) (t : Fin 128) (n : Fin 768) {e e' : Fin 16} (h : e.val = p) (h' : e'.val = p + 1) :
    A.partSum p t n + A.weight t e * A.expert e n t + A.weight t e' * A.expert e' n t = A.partSum (p + 2) t n := by
  unfold Arrays.partSum
  rw [Finset.sum_range_succ, Finset.sum_range_succ, A.added_of_val t n h, A.added_of_val t n h', add_assoc, add_assoc, add_assoc]

/-- All sixteen experts make the result. -/
theorem Arrays.partSum_all (A : Arrays) (t : Fin 128) (n : Fin 768) : A.partSum 16 t n = A.result t n := by
  unfold Arrays.partSum Arrays.result
  rw [Finset.sum_range]
  exact congrArg (A.x t n + ·) (Finset.sum_congr rfl fun e _ => (A.added_of_val t n rfl).symm)

/-- The carried scratch, the first `p` experts added. -/
structure Carried (A : Arrays) (p : ℕ) (n : Vec Ideal S768x128 .f32) (w : Vec Ideal S16x128 .f32) (acc : Vec Ideal S768x128 .f32) : Prop where
  tokens : ∀ k t, n (ix2 k t) = A.normed t k
  weights : ∀ e t, w (ix2 e t) = A.weight t e
  acc_at : ∀ k t, acc (ix2 k t) = A.partSum p t k

/-- A point's first expert is twice the point. -/
theorem first_val : ∀ t : Fin cfg0.N, (firstExpert (grid0.coords t)).val = 2 * t.val := (by decide +kernel : ∀ t : Fin grid0.N, _)
/-- A point's second expert follows its first. -/
theorem second_val : ∀ t : Fin cfg0.N, (secondExpert (grid0.coords t)).val = 2 * t.val + 1 := (by decide +kernel : ∀ t : Fin grid0.N, _)

/-- The first expert's row of the first biases lies in the array. -/
theorem row1_in : ∀ (t : Fin cfg0.N) (a : Fin 2), k0_off1 (grid0.coords t) a + (![1, 1536] : Fin 2 → ℕ) a ≤ S16x1536.size a :=
  (by decide +kernel : ∀ t : Fin grid0.N, _)
/-- The first expert's row of the second biases lies in the array. -/
theorem row2_in : ∀ (t : Fin cfg0.N) (a : Fin 2), k0_off2 (grid0.coords t) a + (![1, 768] : Fin 2 → ℕ) a ≤ S16x768.size a :=
  (by decide +kernel : ∀ t : Fin grid0.N, _)
/-- The first expert's row of the map of weights lies in the map. -/
theorem row3_in : ∀ (t : Fin cfg0.N) (a : Fin 2), k0_off3 (grid0.coords t) a + (![1, 128] : Fin 2 → ℕ) a ≤ S16x128.size a :=
  (by decide +kernel : ∀ t : Fin grid0.N, _)
/-- The second expert's row of the first biases lies in the array. -/
theorem row4_in : ∀ (t : Fin cfg0.N) (a : Fin 2), k0_off4 (grid0.coords t) a + (![1, 1536] : Fin 2 → ℕ) a ≤ S16x1536.size a :=
  (by decide +kernel : ∀ t : Fin grid0.N, _)
/-- The second expert's row of the second biases lies in the array. -/
theorem row5_in : ∀ (t : Fin cfg0.N) (a : Fin 2), k0_off5 (grid0.coords t) a + (![1, 768] : Fin 2 → ℕ) a ≤ S16x768.size a :=
  (by decide +kernel : ∀ t : Fin grid0.N, _)
/-- The second expert's row of the map of weights lies in the map. -/
theorem row6_in : ∀ (t : Fin cfg0.N) (a : Fin 2), k0_off6 (grid0.coords t) a + (![1, 128] : Fin 2 → ℕ) a ≤ S16x128.size a :=
  (by decide +kernel : ∀ t : Fin grid0.N, _)

variable (m : (ℓ : Loc nD τ sig) → Buf (Elt Ideal) ℓ) (c : Dev nD) (t : Fin cfg0.N)

/-- What a point's two experts make of an accumulator that holds the experts before them. -/
theorem both_added (u v : View sig .tc .vmem S768x128 .f32) {n : Vec Ideal S768x128 .f32} {w : Vec Ideal S16x128 .f32}
    {acc : Vec Ideal S768x128 .f32} (h : Carried (given m c) (2 * t.val) n w acc) (k : Fin 768) (s : Fin 128) :
    afterBoth (grid0.coords t) u v n w (iblk m c 16 t) (iblk m c 17 t) (row1_in t) (row2_in t) (row3_in t) (row4_in t) (row5_in t)
        (row6_in t) (iblk m c 4 t) (iblk m c 5 t) (iblk m c 6 t) (iblk m c 7 t) (iblk m c 8 t) (iblk m c 9 t) (iblk m c 10 t)
        (iblk m c 11 t) (iblk m c 12 t) (iblk m c 13 t) (iblk m c 14 t) (iblk m c 15 t) acc (ix2 k s)
      = (given m c).partSum (2 * t.val + 2) s k := by
  rw [afterBoth_at h.tokens h.weights (b1_block m c t) (b2_block m c t) (first_blocks m c t) (second_blocks m c t), h.acc_at]
  exact (given m c).partSum_two _ s k (first_val t) (second_val t)

/-- After the first point. -/
theorem carried_first (hA : (given m c).Bounded) (p) (h0 : t.val % 8 = 0) (h1 : ¬t.val % 8 = 7) (ht : t.val = 0) :
    Carried (given m c) (2 * t.val + 2) (stAt0 m c t.val t.isLt p).2.1 (stAt0 m c t.val t.isLt p).2.2.1 (stAt0 m c t.val t.isLt p).2.2.2 := by
  have hr := router_blocks m c t
  have hw : ∀ e s, routed (iblk m c 0 t) (iblk m c 1 t) (iblk m c 2 t) (iblk m c 3 t) (ix2 e s) = (given m c).weight s e := fun e s =>
    hr.weight hA _ (fun _ _ => by pointwise) e s
  rw [stAt0_A m c t p h0 h1]
  dsimp only
  refine ⟨fun k s => ?_, fun e s => ?_, fun k s => ?_⟩
  · rw [tokens_A]
    exact hr.normed_stored k s
  · rw [routed_A]
    exact hw e s
  · rw [acc_A (h1 := row1_in t) (h2 := row2_in t) (h3 := row3_in t) (h4 := row4_in t) (h5 := row5_in t) (h6 := row6_in t)]
    refine both_added m c t _ _ ⟨hr.normed_stored, hw, fun k s => ?_⟩ k s
    rw [hr.tokens, ht]
    unfold Arrays.partSum
    simp

/-- After a middle point. -/
theorem carried_next {p} (hp : Carried (given m c) (2 * t.val) p.2.1 p.2.2.1 p.2.2.2) (h0 : ¬t.val % 8 = 0) (h1 : ¬t.val % 8 = 7) :
    Carried (given m c) (2 * t.val + 2) (stAt0 m c t.val t.isLt p).2.1 (stAt0 m c t.val t.isLt p).2.2.1 (stAt0 m c t.val t.isLt p).2.2.2 := by
  rw [stAt0_B m c t p h0 h1]
  dsimp only
  refine ⟨fun k s => ?_, fun e s => ?_, fun k s => ?_⟩
  · exact hp.tokens k s
  · exact hp.weights e s
  · rw [acc_B (h1 := row1_in t) (h2 := row2_in t) (h3 := row3_in t) (h4 := row4_in t) (h5 := row5_in t) (h6 := row6_in t)]
    exact both_added m c t _ _ hp k s

/-- What the last point stores. -/
theorem stored_last {p} (hp : Carried (given m c) (2 * t.val) p.2.1 p.2.2.1 p.2.2.2) (h0 : ¬t.val % 8 = 0) (h1 : t.val % 8 = 7)
    (s : Fin 128) (k : Fin 768) : (stAt0 m c t.val t.isLt p).1 (ix2 s k) = (given m c).partSum (2 * t.val + 2) s k := by
  rw [stAt0_C m c t p h0 h1]
  dsimp only
  rw [out_C (h1 := row1_in t) (h2 := row2_in t) (h3 := row3_in t) (h4 := row4_in t) (h5 := row5_in t) (h6 := row6_in t), output]
  exact both_added m c t _ _ hp k s

/-- What every point but the last leaves. -/
theorem carried (hA : (given m c).Bounded) : ∀ (n : ℕ) (hn : n < cfg0.N), n < 7 →
    Carried (given m c) (2 * n + 2) (outsAt0 m c n hn).2.1 (outsAt0 m c n hn).2.2.1 (outsAt0 m c n hn).2.2.2
  | 0, hn, _ => by
    rw [outsAt0_zero]
    exact carried_first m c ⟨0, hn⟩ hA _ rfl (fun h => absurd (show (0 : ℕ) = 7 from h) (by decide)) rfl
  | n + 1, hn, h7 => by
    rw [outsAt0_succ]
    have h := carried hA n (Nat.lt_of_succ_lt hn) (by omega)
    exact carried_next m c ⟨n + 1, hn⟩ (p := outsAt0 m c n (Nat.lt_of_succ_lt hn)) h (by show ¬(n + 1) % 8 = 0; omega)
      (by show ¬(n + 1) % 8 = 7; omega)

/-- The kernel's result. -/
theorem kernel_value (hA : (given m c).Bounded) (s : Fin 128) (k : Fin 768) : G18 m c (ix2 s k) = (given m c).result s k := by
  have h8 : 7 < cfg0.N := lt_of_lt_of_eq (by decide) N_0.symm
  rw [G18_last, ← outsAt0_sweep m c 7 h8, outsAt0_succ m c 6 h8]
  refine (stored_last m c ⟨7, h8⟩ (p := outsAt0 m c 6 (Nat.lt_of_succ_lt h8)) (carried m c hA 6 _ (by decide)) (fun h => absurd (show (7 : ℕ) = 0 from h) (by decide)) rfl
    s k).trans ?_
  exact (given m c).partSum_all s k

end Cert.Moe

end
-- ==== Proof.RefStages.lean ====
/-
  The reference's stages, one definition each: normalized tokens, scores, the two selected scores and their experts'
  indices, the softmax over the two, the selected experts' hidden layers, their gated units and their outputs. The
  value the reference's run ends with is their composition.
-/
module

public import proofs.«01_k».proof.Proof.Spec
public import proofs.«01_k».proof.Proof.Gen.ReferenceIdeal.Run

@[expose] public section

set_option maxRecDepth 16384

noncomputable section

namespace Cert.Moe.Ref

open Idealize.ShloMosaic Idealize.ShloMosaic.TcCoe Cert.ReferenceIdeal Cert.ReferenceIdeal.Gen

/-- The tokens, each divided by its root mean square, times the scale. -/
def normed (x : FVec Ideal S128x768 .f32) (s : FVec Ideal S768 .f32) : FVec Ideal S128x768 .f32 :=
  mulf (mulf x (broadcastInDim S128x768 ![0, 1] bcast_S128x1_S128x768_0_1 (Host.rsqrt (addf
      (Host.divf (broadcastInDim S128x1 ![0] bcast_S128_S128x1_0
          (Host.reduceAdd (mulf x x) (constant S_ .f32 0x00000000#32) reducesTo_S128x768_S128_d1 h_S_))
        (broadcastInDim S128x1 ![] bcast_S_S128x1 (constant S_ .f32 0x44400000#32)))
      (broadcastInDim S128x1 ![] bcast_S_S128x1 (constant S_ .f32 0x3727C5AC#32))))))
    (broadcastInDim S128x768 ![0, 1] bcast_S1x768_S128x768_0_1 (broadcastInDim S1x768 ![1] bcast_S768_S1x768_1 s))

/-- The experts' scores. -/
def scores (n : FVec Ideal S128x768 .f32) (w : FVec Ideal S16x768 .f32) (b : FVec Ideal S16 .f32) : FVec Ideal S128x16 .f32 :=
  addf (Host.dotGeneral dot_S128x768_S768x16_S128x16_1_0_0_1_n_n none n (transpose S768x16 [1, 0] w transposes_S16x768_S768x16_1_0))
    (broadcastInDim S128x16 ![0, 1] bcast_S1x16_S128x16_0_1 (broadcastInDim S1x16 ![1] bcast_S16_S1x16_1 b))

/-- The two greatest scores of each token. -/
def values (g : FVec Ideal S128x16 .f32) : FVec Ideal S128x2 .f32 :=
  (Host.topK S128x2 1 (FloatOps.cmpfTotal .gt) g sliceFits_S128x16_S128x2).1

/-- Their experts. -/
def indices (g : FVec Ideal S128x16 .f32) : IVec S128x2 32 :=
  (Host.topK S128x2 1 (FloatOps.cmpfTotal .gt) g sliceFits_S128x16_S128x2).2

/-- The softmax's exponentials, of the scores less the greater one. -/
def exps (v : FVec Ideal S128x2 .f32) : FVec Ideal S128x2 .f32 :=
  Host.exp (subf v (broadcastInDim S128x2 ![0, 1] bcast_S128x1_S128x2_0_1 (broadcastInDim S128x1 ![0] bcast_S128_S128x1_0
    (maximumf (broadcastInDim S128 ![] bcast_S_S128 (constant S_ .f32 0xFF800000#32))
      (Host.reduce FloatOps.maximumf v (constant S_ .f32 0xFF800000#32) reducesTo_S128x2_S128_d1 h_S_)))))

/-- The softmax over the two selected scores. -/
def shares (v : FVec Ideal S128x2 .f32) : FVec Ideal S128x2 .f32 :=
  Host.divf (exps v) (broadcastInDim S128x2 ![0, 1] bcast_S128x1_S128x2_0_1 (broadcastInDim S128x1 ![0] bcast_S128_S128x1_0
    (Host.reduceAdd (exps v) (constant S_ .f32 0x00000000#32) reducesTo_S128x2_S128_d1 h_S_)))

/-- The indices as a gather takes them, a negative one counted from the end. -/
def wrapped (i : IVec S128x2 32) : IVec S128x2x1 32 :=
  broadcastInDim S128x2x1 ![0, 1] bcast_S128x2_S128x2x1_0_1
    (select (cmpi .slt i (broadcastInDim S128x2 ![] bcast_S_S128x2 (constantI S_ 32 0#32)))
      (addi i (broadcastInDim S128x2 ![] bcast_S_S128x2 (constantI S_ 32 16#32))) i)

/-- The selected experts' hidden layers. -/
def hidden (n : FVec Ideal S128x768 .f32) (w : FVec Ideal S16x1536x768 .f32) (b : FVec Ideal S16x1536 .f32) (i : IVec S128x2x1 32) :
    FVec Ideal S128x2x1536 .f32 :=
  addf (Host.dotGeneral dot_S128x2x1536x768_S128x768_S128x2x1536_3_1_12_n_0_0 none
      (Host.gather gather_S16x1536x768_S128x2x1_S128x2x1536x768_23_0_n_n_0_2_11536768 w i) n)
    (Host.gather gather_S16x1536_S128x2x1_S128x2x1536_2_0_n_n_0_2_11536 b i)

/-- The gates: the even rows, clipped above. -/
def gate (h : FVec Ideal S128x2x1536 .f32) : FVec Ideal S128x2x768 .f32 :=
  minimumf (Host.slice S128x2x768 ![0, 0, 0] ![1, 1, 2] h slicesBy_S128x2x1536_S128x2x768_0s1_0s1_0s2)
    (broadcastInDim S128x2x768 ![] bcast_S_S128x2x768 (constant S_ .f32 0x40E00000#32))

/-- The linear halves: the odd rows, clipped on both sides. -/
def linear (h : FVec Ideal S128x2x1536 .f32) : FVec Ideal S128x2x768 .f32 :=
  minimumf (broadcastInDim S128x2x768 ![] bcast_S_S128x2x768 (constant S_ .f32 0x40E00000#32))
    (maximumf (broadcastInDim S128x2x768 ![] bcast_S_S128x2x768 (constant S_ .f32 0xC0E00000#32))
      (Host.slice S128x2x768 ![0, 0, 1] ![1, 1, 2] h slicesBy_S128x2x1536_S128x2x768_0s1_0s1_1s2))

/-- The gated units. -/
def act (h : FVec Ideal S128x2x1536 .f32) : FVec Ideal S128x2x768 .f32 :=
  mulf (mulf (gate h) (Host.divf (broadcastInDim S128x2x768 ![] bcast_S_S128x2x768 (constant S_ .f32 0x3F800000#32))
      (addf (broadcastInDim S128x2x768 ![] bcast_S_S128x2x768 (constant S_ .f32 0x3F800000#32))
        (Host.exp (Host.negf (mulf (broadcastInDim S128x2x768 ![] bcast_S_S128x2x768 (constant S_ .f32 0x3FD9DB23#32)) (gate h)))))))
    (addf (linear h) (broadcastInDim S128x2x768 ![] bcast_S_S128x2x768 (constant S_ .f32 0x3F800000#32)))

/-- The selected experts' outputs. -/
def outputs (a : FVec Ideal S128x2x768 .f32) (w : FVec Ideal S16x768x768 .f32) (b : FVec Ideal S16x768 .f32) (i : IVec S128x2x1 32) :
    FVec Ideal S128x2x768 .f32 :=
  addf (Host.dotGeneral dot_S128x2x768x768_S128x2x768_S128x2x768_3_2_2_n_01_01 none
      (Host.gather gather_S16x768x768_S128x2x1_S128x2x768x768_23_0_n_n_0_2_1768768 w i) a)
    (Host.gather gather_S16x768_S128x2x1_S128x2x768_2_0_n_n_0_2_1768 b i)

/-- The tokens plus their two experts' outputs, weighted. -/
def combine (x : FVec Ideal S128x768 .f32) (o : FVec Ideal S128x2x768 .f32) (s : FVec Ideal S128x2 .f32) : FVec Ideal S128x768 .f32 :=
  addf x (Host.dotGeneral dot_S128x2x768_S128x2_S128x768_1_1_2_n_0_0 none o s)

/-- The block: every stage, from the eight arrays. -/
def block (x : FVec Ideal S128x768 .f32) (s : FVec Ideal S768 .f32) (gw : FVec Ideal S16x768 .f32) (gb : FVec Ideal S16 .f32)
    (w1 : FVec Ideal S16x1536x768 .f32) (b1 : FVec Ideal S16x1536 .f32) (w2 : FVec Ideal S16x768x768 .f32) (b2 : FVec Ideal S16x768 .f32) :
    FVec Ideal S128x768 .f32 :=
  combine x
    (outputs (act (hidden (normed x s) w1 b1 (wrapped (indices (scores (normed x s) gw gb))))) w2 b2
      (wrapped (indices (scores (normed x s) gw gb))))
    (shares (values (scores (normed x s) gw gb)))

/-- What the reference's run ends with is the block of its arguments. -/
theorem run_value (m : (ℓ : Loc nD τ sig) → Buf (Elt Ideal) ℓ) (c : Dev nD) :
    Cert.ReferenceIdeal.Value.res_out0 m c
      = block (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) := by
  unfold Cert.ReferenceIdeal.Value.res_out0 Cert.ReferenceIdeal.Value.res_main_v79
  rfl

end Cert.Moe.Ref
-- ==== Proof.RefGather.lean ====
/-
  The reference's four gathers at an index: where the index word names expert `e`, the result holds expert `e`'s entry.
-/
module

public import proofs.«01_k».proof.Proof.RefStages
public import Idealize.ShloMosaic.Lib.Pointwise

@[expose] public section

set_option maxRecDepth 16384

noncomputable section

namespace Cert.Moe.Ref

open Idealize.ShloMosaic Cert.ReferenceIdeal Cert.ReferenceIdeal.Gen

/-- An expert's index word, read signed and cut off at the last expert, is the expert. -/
theorem clamp_index (e : Fin 16) : min (BitVec.ofNat 32 e.val).toInt.toNat (16 - 1) = e.val := by
  revert e; decide

variable {i : IVec S128x2x1 32} {e : Fin 16} {t : Fin 128} {k : Fin 2}

/-- The weights the first layer gathers are those of the expert the index word names. -/
theorem gather_w1 (w : FVec Ideal S16x1536x768 .f32) (hi : i (ix3 t k 0) = BitVec.ofNat 32 e.val) (r : Fin 1536) (l : Fin 768) :
    Host.gather gather_S16x1536x768_S128x2x1_S128x2x1536x768_23_0_n_n_0_2_11536768 w i (ix4 t k r l) = w (ix3 e r l) := by
  refine congrArg w (funext fun a => Fin.ext ?_)
  match a with
  | ⟨0, _⟩ =>
    refine Eq.trans ?_ ((congrArg (fun v => min v.toInt.toNat (16 - 1)) hi).trans (clamp_index e))
    refine congrArg (fun j => min (i j).toInt.toNat (16 - 1)) (funext fun b => Fin.ext ?_)
    match b with
    | ⟨0, _⟩ => rfl
    | ⟨1, _⟩ => rfl
    | ⟨2, _⟩ => rfl
  | ⟨1, _⟩ => exact Nat.zero_add _
  | ⟨2, _⟩ => exact Nat.zero_add _

/-- The weights the second layer gathers are those of the expert the index word names. -/
theorem gather_w2 (w : FVec Ideal S16x768x768 .f32) (hi : i (ix3 t k 0) = BitVec.ofNat 32 e.val) (r : Fin 768) (l : Fin 768) :
    Host.gather gather_S16x768x768_S128x2x1_S128x2x768x768_23_0_n_n_0_2_1768768 w i (ix4 t k r l) = w (ix3 e r l) := by
  refine congrArg w (funext fun a => Fin.ext ?_)
  match a with
  | ⟨0, _⟩ =>
    refine Eq.trans ?_ ((congrArg (fun v => min v.toInt.toNat (16 - 1)) hi).trans (clamp_index e))
    refine congrArg (fun j => min (i j).toInt.toNat (16 - 1)) (funext fun b => Fin.ext ?_)
    match b with
    | ⟨0, _⟩ => rfl
    | ⟨1, _⟩ => rfl
    | ⟨2, _⟩ => rfl
  | ⟨1, _⟩ => exact Nat.zero_add _
  | ⟨2, _⟩ => exact Nat.zero_add _

/-- The biases the first layer gathers are those of the expert the index word names. -/
theorem gather_b1 (w : FVec Ideal S16x1536 .f32) (hi : i (ix3 t k 0) = BitVec.ofNat 32 e.val) (r : Fin 1536) :
    Host.gather gather_S16x1536_S128x2x1_S128x2x1536_2_0_n_n_0_2_11536 w i (ix3 t k r) = w (ix2 e r) := by
  refine congrArg w (funext fun a => Fin.ext ?_)
  match a with
  | ⟨0, _⟩ =>
    refine Eq.trans ?_ ((congrArg (fun v => min v.toInt.toNat (16 - 1)) hi).trans (clamp_index e))
    refine congrArg (fun j => min (i j).toInt.toNat (16 - 1)) (funext fun b => Fin.ext ?_)
    match b with
    | ⟨0, _⟩ => rfl
    | ⟨1, _⟩ => rfl
    | ⟨2, _⟩ => rfl
  | ⟨1, _⟩ => exact Nat.zero_add _

/-- The biases the second layer gathers are those of the expert the index word names. -/
theorem gather_b2 (w : FVec Ideal S16x768 .f32) (hi : i (ix3 t k 0) = BitVec.ofNat 32 e.val) (r : Fin 768) :
    Host.gather gather_S16x768_S128x2x1_S128x2x768_2_0_n_n_0_2_1768 w i (ix3 t k r) = w (ix2 e r) := by
  refine congrArg w (funext fun a => Fin.ext ?_)
  match a with
  | ⟨0, _⟩ =>
    refine Eq.trans ?_ ((congrArg (fun v => min v.toInt.toNat (16 - 1)) hi).trans (clamp_index e))
    refine congrArg (fun j => min (i j).toInt.toNat (16 - 1)) (funext fun b => Fin.ext ?_)
    match b with
    | ⟨0, _⟩ => rfl
    | ⟨1, _⟩ => rfl
    | ⟨2, _⟩ => rfl
  | ⟨1, _⟩ => exact Nat.zero_add _

end Cert.Moe.Ref
-- ==== Proof.Reals.lean ====
/-
  Finite arrays have finite scores, and of two finite scores the softmax is the share of the greater and what is
  left of one.
-/
module

public import proofs.«01_k».proof.Proof.Spec

@[expose] public section

namespace Cert.Moe

open Idealize.ShloMosaic

/-- An extended real that is a real number. -/
def IsReal (a : EReal) : Prop := ∃ r : ℝ, a = (r : EReal)

/-- What is neither infinity is real. -/
theorem isReal_of_ne {a : EReal} (h : a ≠ ⊥) (h' : a ≠ ⊤) : IsReal a := ⟨a.toReal, (EReal.coe_toReal h' h).symm⟩

/-- Sums of reals are real. -/
theorem IsReal.add {a b : EReal} (ha : IsReal a) (hb : IsReal b) : IsReal (a + b) := by
  obtain ⟨r, rfl⟩ := ha; obtain ⟨s, rfl⟩ := hb; exact ⟨r + s, (EReal.coe_add r s).symm⟩

/-- Products of reals are real. -/
theorem IsReal.mul {a b : EReal} (ha : IsReal a) (hb : IsReal b) : IsReal (a * b) := by
  obtain ⟨r, rfl⟩ := ha; obtain ⟨s, rfl⟩ := hb; exact ⟨r * s, (EReal.coe_mul r s).symm⟩

/-- Finite sums of reals are real. -/
theorem IsReal.sum {n : ℕ} {f : Fin n → EReal} (h : ∀ k, IsReal (f k)) : IsReal (∑ k, f k) :=
  Finset.sum_induction f IsReal (fun _ _ => IsReal.add) ⟨0, rfl⟩ fun k _ => h k

/-- A sum of reals, summed over the extended reals. -/
theorem coe_sum {n : ℕ} (g : Fin n → ℝ) : ((∑ k, g k : ℝ) : EReal) = ∑ k, (g k : EReal) := by
  classical
  refine Finset.induction_on (Finset.univ : Finset (Fin n)) (by simp) fun a s ha ih => ?_
  rw [Finset.sum_insert ha, Finset.sum_insert ha, EReal.coe_add, ih]

/-- The word of 768. -/
theorem bits_768 : Ideal.ofBits .f32 0x44400000#32 = ((768 : ℝ) : EReal) := by
  simp [Ideal.ofBits, Ideal.ieee, -EReal.coe_mul]; norm_num

/-- The norm's small constant is a positive real number. -/
theorem bits_eps : ∃ r : ℝ, 0 < r ∧ Ideal.ofBits .f32 0x3727C5AC#32 = (r : EReal) := by
  refine ⟨_, ?_, by simp [Ideal.ofBits, Ideal.ieee, -EReal.coe_mul]; rfl⟩
  positivity

/-- The reciprocal root of a mean of squares plus the small constant is a real number. -/
theorem isReal_rsqrt {n : ℕ} {f : Fin n → EReal} (h : ∀ k, IsReal (f k)) :
    IsReal (Ideal.rsqrt (Ideal.div (∑ j, f j * f j) (Ideal.ofBits .f32 0x44400000#32)
      + Ideal.ofBits .f32 0x3727C5AC#32)) := by
  choose g hg using h
  obtain ⟨e, he, hb⟩ := bits_eps
  have hs : (∑ j, f j * f j) = ((∑ j, g j * g j : ℝ) : EReal) := by
    rw [coe_sum]; exact Finset.sum_congr rfl fun j _ => by rw [hg, EReal.coe_mul]
  have h0 : 0 ≤ ∑ j, g j * g j := Finset.sum_nonneg fun j _ => mul_self_nonneg _
  rw [hs, hb, bits_768, Ideal.div_coe (by norm_num), ← EReal.coe_mul, ← EReal.coe_add, Ideal.rsqrt_coe]
  have hp : 0 < (∑ j, g j * g j) * (1 / 768) + e := by positivity
  rw [if_neg (not_lt.mpr hp.le), if_neg hp.ne']
  exact ⟨_, rfl⟩

/-- A square is not negative. -/
theorem square_nonneg (a : EReal) : 0 ≤ a * a := by
  induction a with
  | bot => simp
  | top => simp
  | coe r => exact_mod_cast mul_self_nonneg r

/-- An infinite number among them makes the reciprocal root zero. -/
theorem rsqrt_eq_zero {n : ℕ} {f : Fin n → EReal} {k : Fin n} (h : ¬IsReal (f k)) :
    Ideal.rsqrt (Ideal.div (∑ j, f j * f j) (Ideal.ofBits .f32 0x44400000#32) + Ideal.ofBits .f32 0x3727C5AC#32) = 0 := by
  obtain ⟨e, -, hb⟩ := bits_eps
  have hk : f k * f k = ⊤ := by
    by_cases h1 : f k = ⊥
    · rw [h1, EReal.bot_mul_bot]
    · by_cases h2 : f k = ⊤
      · rw [h2, EReal.top_mul_top]
      · exact absurd (isReal_of_ne h1 h2) h
  have hs : (∑ j, f j * f j) = ⊤ := top_le_iff.mp
    (hk ▸ Finset.single_le_sum (f := fun j => f j * f j) (fun j _ => square_nonneg (f j)) (Finset.mem_univ k))
  rw [hs, hb, bits_768, Ideal.div_coe (by norm_num), EReal.top_mul_coe_of_pos (by norm_num), EReal.top_add_coe]
  rfl

/-- A token's entry over the root of its mean square is a real number, whatever the token holds. -/
theorem isReal_over_root {n : ℕ} (f : Fin n → EReal) (k : Fin n) :
    IsReal (f k * Ideal.rsqrt (Ideal.div (∑ j, f j * f j) (Ideal.ofBits .f32 0x44400000#32)
      + Ideal.ofBits .f32 0x3727C5AC#32)) := by
  by_cases h : ∀ j, IsReal (f j)
  · exact (h k).mul (isReal_rsqrt h)
  · obtain ⟨j, hj⟩ := not_forall.mp h
    rw [rsqrt_eq_zero hj, mul_zero]
    exact ⟨0, rfl⟩

/-- Of a finite scale, finite gate weights and finite gate biases no score is infinite. -/
theorem Arrays.bounded {A : Arrays} (hs : ∀ k, IsReal (A.scale k)) (hw : ∀ e k, IsReal (A.gateW e k))
    (hb : ∀ e, IsReal (A.gateB e)) : A.Bounded := fun t e =>
  (IsReal.sum fun k => (hw e k).mul ((isReal_over_root (A.x t) k).mul (hs k))).add (hb e)

/-- The softmax's first weight of two real scores. -/
theorem softmax_first (a b : ℝ) :
    Ideal.div (Ideal.exp ((a : EReal) - a)) (Ideal.exp ((a : EReal) - a) + Ideal.exp ((b : EReal) - a))
      = share a b := by
  have h : Ideal.exp ((a : EReal) - a) = 1 := by
    rw [← EReal.coe_sub, sub_self, Ideal.exp_coe, Real.exp_zero]; rfl
  rw [h, share]

/-- The softmax's second weight of two real scores is what the first one leaves of one. -/
theorem softmax_second (a b : ℝ) :
    Ideal.div (Ideal.exp ((b : EReal) - a)) (Ideal.exp ((a : EReal) - a) + Ideal.exp ((b : EReal) - a))
      = 1 - share a b := by
  have h : Ideal.exp ((a : EReal) - a) = ((1 : ℝ) : EReal) := by
    rw [← EReal.coe_sub, sub_self, Ideal.exp_coe, Real.exp_zero]
  have hp : 0 < 1 + Real.exp (b - a) := by positivity
  have h1 : (1 : EReal) = ((1 : ℝ) : EReal) := rfl
  rw [share, h, h1, ← EReal.coe_sub, Ideal.exp_coe, ← EReal.coe_add, Ideal.div_coe hp.ne', Ideal.div_coe hp.ne',
    ← EReal.coe_mul, ← EReal.coe_mul, ← EReal.coe_sub]
  congr 1
  field_simp
  ring

end Cert.Moe
-- ==== Proof.RefValue.lean ====
/-
  The reference's stages at an index, in terms of the block's plain sums.
-/
module

public import proofs.«01_k».proof.Proof.RefGather
public import proofs.«01_k».proof.Proof.Reals
public import proofs.«01_k».proof.Proof.Rounds
public import Idealize.ShloMosaic.Lib.Pointwise

@[expose] public section

set_option maxRecDepth 16384

noncomputable section

namespace Cert.Moe.Ref

open Idealize.ShloMosaic Cert.ReferenceIdeal Cert.ReferenceIdeal.Gen

variable {A : Arrays}

/-- The normalized tokens. -/
theorem normed_at {x : FVec Ideal S128x768 .f32} {s : FVec Ideal S768 .f32} (hx : ∀ t k, x (ix2 t k) = A.x t k)
    (hs : ∀ k, s (ix1 k) = A.scale k) (t : Fin 128) (k : Fin 768) : normed x s (ix2 t k) = A.normed t k := by
  pointwise [normed]
  simp only [hx, hs]
  rfl

/-- The scores. -/
theorem scores_at {n : FVec Ideal S128x768 .f32} {w : FVec Ideal S16x768 .f32} {b : FVec Ideal S16 .f32}
    (hn : ∀ t k, n (ix2 t k) = A.normed t k) (hw : ∀ e k, w (ix2 e k) = A.gateW e k) (hb : ∀ e, b (ix1 e) = A.gateB e)
    (t : Fin 128) (e : Fin 16) : scores n w b (ix2 t e) = A.score t e := by
  pointwise [scores]
  simp only [hn, hw, hb]
  unfold Arrays.score
  simp only [mul_comm]

/-- The order of the sort, at the extended reals. -/
theorem total_gt (a b : EReal) : (FloatOps.cmpfTotal (F := Ideal) (φ := .f32) .gt a b == 1#1) = decide (b < a) := by
  show (BitVec.ofBool (decide (b < a)) == 1#1) = _
  cases decide (b < a) <;> rfl

/-- The place a token's sort puts at `k`. -/
def place (g : FVec Ideal S128x16 .f32) (t : Fin 128) (k : Fin 2) : Fin 16 :=
  sortedFrom (fun a b => decide ((g (ix2 t b) : EReal) < g (ix2 t a))) ⟨k, by omega⟩

/-- The first two columns' entry, in the array they are cut from. -/
theorem firstTwo_at {α : Type} (f : S128x16.Idx → α) (t : Fin 128) (k : Fin 2) :
    extractStridedSlice S128x2 (fun _ => 0) f sliceFits_S128x16_S128x2 (ix2 t k) = f (ix2 t ⟨k, by omega⟩) := by
  refine congrArg f (funext fun a => Fin.ext ?_)
  match a with
  | ⟨0, _⟩ => exact Nat.zero_add _
  | ⟨1, _⟩ => exact Nat.zero_add _

/-- A row's entry at another column. -/
theorem along_at (t : Fin 128) (k e : Fin 16) : (ix2 t k : S128x16.Idx).along (1 : Fin 2) e = ix2 t e := by
  funext a
  match a with
  | ⟨0, _⟩ => rfl
  | ⟨1, _⟩ => rfl

/-- The sort's place, spelled with the comparator. -/
theorem place_eq (g : FVec Ideal S128x16 .f32) (t : Fin 128) (k : Fin 2) :
    sortedFrom (fun a b : Fin 16 => FloatOps.cmpfTotal (F := Ideal) (φ := .f32) .gt
      (g ((ix2 t ⟨k, by omega⟩ : S128x16.Idx).along (1 : Fin 2) a)) (g ((ix2 t ⟨k, by omega⟩ : S128x16.Idx).along (1 : Fin 2) b)) == 1#1)
      ⟨k, by omega⟩ = place g t k := by
  simp only [along_at, total_gt]
  rfl

/-- The selected scores. -/
theorem values_at (g : FVec Ideal S128x16 .f32) (t : Fin 128) (k : Fin 2) : values g (ix2 t k) = g (ix2 t (place g t k)) := by
  unfold values Host.topK Host.sort2
  dsimp only
  rw [firstTwo_at, dif_pos (show 1 < S128x16.rank by decide)]
  exact congrArg g ((congrArg _ (place_eq g t k)).trans (along_at t _ _))

/-- The selected scores' experts. -/
theorem indices_at (g : FVec Ideal S128x16 .f32) (t : Fin 128) (k : Fin 2) :
    indices g (ix2 t k) = BitVec.ofNat 32 (place g t k).val := by
  unfold indices Host.topK Host.sort2
  dsimp only
  rw [firstTwo_at, dif_pos (show 1 < S128x16.rank by decide)]
  simp only [dif_pos (show 1 < S128x16.rank by decide)]
  have h := (congrArg (Shape.Idx.along (ix2 t ⟨k, by omega⟩ : S128x16.Idx) (1 : Fin 2)) (place_eq g t k)).trans (along_at t _ _)
  exact (congrArg (iotaInDim S128x16 32 (1 : Fin 2)) h).trans rfl

/-- The first place is the greatest score's expert. -/
theorem place_zero {g : FVec Ideal S128x16 .f32} (hg : ∀ t e, g (ix2 t e) = A.score t e) (t : Fin 128) : place g t 0 = A.best t := by
  unfold place
  simp only [hg]
  exact (firstMax_sortedFrom (n := 14) (A.score t)).unique (A.firstMax_best t)

/-- The second place is the greatest of the other scores' expert. -/
theorem place_one {g : FVec Ideal S128x16 .f32} (hg : ∀ t e, g (ix2 t e) = A.score t e) (hA : A.Bounded) (t : Fin 128) :
    place g t 1 = A.second t := by
  have h0 := (firstMax_sortedFrom (n := 14) (A.score t)).unique (A.firstMax_best t)
  have h1 := firstMax_without_sortedFrom (n := 14) (A.score t) (hA.ne_bot t)
  rw [h0] at h1
  unfold place
  simp only [hg]
  exact h1.unique (A.firstMax_second t)

/-- An expert's index word is not wrapped. -/
theorem wrapped_at {i : IVec S128x2 32} {e : Fin 16} (t : Fin 128) (k : Fin 2) (hi : i (ix2 t k) = BitVec.ofNat 32 e.val) :
    wrapped i (ix3 t k 0) = BitVec.ofNat 32 e.val := by
  pointwise [wrapped]
  rw [hi]
  clear hi
  revert e; decide

/-- The exponentials, from the two scores, the first one the greater. -/
theorem exps_at {v : FVec Ideal S128x2 .f32} {t : Fin 128} (h : v (ix2 t 1) ≤ v (ix2 t 0)) (k : Fin 2) :
    exps v (ix2 t k) = Ideal.exp (v (ix2 t k) - v (ix2 t 0)) := by
  have hf : FirstMax (fun x : Fin 2 => (v (ix2 t x) : EReal)) 0 :=
    ⟨fun k => by match k with | 0 => exact le_rfl | 1 => exact h, fun k _ => Fin.zero_le k⟩
  pointwise [exps]
  rw [fold_max hf, bits_bot, max_eq_right bot_le]

/-- The softmax's weights. -/
theorem shares_at {v : FVec Ideal S128x2 .f32} {t : Fin 128} (h : v (ix2 t 1) ≤ v (ix2 t 0)) (k : Fin 2) :
    shares v (ix2 t k) = Ideal.div (Ideal.exp (v (ix2 t k) - v (ix2 t 0)))
      (Ideal.exp (v (ix2 t 0) - v (ix2 t 0)) + Ideal.exp (v (ix2 t 1) - v (ix2 t 0))) := by
  pointwise [shares]
  rw [Fin.sum_univ_two, exps_at h, exps_at h, exps_at h]

/-- The hidden layer of the expert the index word names. -/
theorem hidden_at {n : FVec Ideal S128x768 .f32} {w : FVec Ideal S16x1536x768 .f32} {b : FVec Ideal S16x1536 .f32}
    {i : IVec S128x2x1 32} {e : Fin 16} {t : Fin 128} {k : Fin 2} (hn : ∀ t k, n (ix2 t k) = A.normed t k)
    (hw : ∀ e r k, w (ix3 e r k) = A.w1 e r k) (hb : ∀ e r, b (ix2 e r) = A.b1 e r)
    (hi : i (ix3 t k 0) = BitVec.ofNat 32 e.val) (r : Fin 1536) : hidden n w b i (ix3 t k r) = A.hidden e r t := by
  pointwise [hidden]
  simp only [gather_w1 w hi, gather_b1 b hi, hn, hw, hb]
  rfl

/-- The gated units of the expert the index word names. -/
theorem act_at {h : FVec Ideal S128x2x1536 .f32} {e : Fin 16} {t : Fin 128} {k : Fin 2}
    (hh : ∀ r, h (ix3 t k r) = A.hidden e r t) (j : Fin 768) : act h (ix3 t k j) = A.act e j t := by
  pointwise [act, linear, gate]
  simp only [hh]
  have h1 : (⟨1 + 2 * j.val, by omega⟩ : Fin 1536) = oddRow j := Fin.ext (Nat.add_comm _ _)
  rw [h1]
  rfl

/-- The outputs of the expert the index word names. -/
theorem outputs_at {a : FVec Ideal S128x2x768 .f32} {w : FVec Ideal S16x768x768 .f32} {b : FVec Ideal S16x768 .f32}
    {i : IVec S128x2x1 32} {e : Fin 16} {t : Fin 128} {k : Fin 2} (ha : ∀ j, a (ix3 t k j) = A.act e j t)
    (hw : ∀ e n j, w (ix3 e n j) = A.w2 e n j) (hb : ∀ e n, b (ix2 e n) = A.b2 e n)
    (hi : i (ix3 t k 0) = BitVec.ofNat 32 e.val) (n : Fin 768) : outputs a w b i (ix3 t k n) = A.expert e n t := by
  pointwise [outputs]
  simp only [gather_w2 w hi, gather_b2 b hi, ha, hw, hb]
  rfl

/-- The token plus its two experts' weighted outputs. -/
theorem combine_at (x : FVec Ideal S128x768 .f32) (o : FVec Ideal S128x2x768 .f32) (s : FVec Ideal S128x2 .f32)
    (t : Fin 128) (n : Fin 768) : combine x o s (ix2 t n)
      = x (ix2 t n) + (o (ix3 t 0 n) * s (ix2 t 0) + o (ix3 t 1 n) * s (ix2 t 1)) := by
  pointwise [combine]
  rw [Fin.sum_univ_two]

/-- The reference's block, at an index, is the specification's result when the scores are real. -/
theorem block_at {x : FVec Ideal S128x768 .f32} {s : FVec Ideal S768 .f32} {gw : FVec Ideal S16x768 .f32}
    {gb : FVec Ideal S16 .f32} {w1 : FVec Ideal S16x1536x768 .f32} {b1 : FVec Ideal S16x1536 .f32}
    {w2 : FVec Ideal S16x768x768 .f32} {b2 : FVec Ideal S16x768 .f32}
    (hx : ∀ t k, x (ix2 t k) = A.x t k) (hs : ∀ k, s (ix1 k) = A.scale k)
    (hgw : ∀ e k, gw (ix2 e k) = A.gateW e k) (hgb : ∀ e, gb (ix1 e) = A.gateB e)
    (hw1 : ∀ e r k, w1 (ix3 e r k) = A.w1 e r k) (hb1 : ∀ e r, b1 (ix2 e r) = A.b1 e r)
    (hw2 : ∀ e n j, w2 (ix3 e n j) = A.w2 e n j) (hb2 : ∀ e n, b2 (ix2 e n) = A.b2 e n)
    (hA : A.Bounded) (t : Fin 128) (n : Fin 768) : block x s gw gb w1 b1 w2 b2 (ix2 t n) = A.result t n := by
  have hn := normed_at hx hs
  have hg := scores_at hn hgw hgb
  have h0 := place_zero hg t
  have h1 := place_one hg hA t
  have i0 := wrapped_at t 0 (indices_at (scores (normed x s) gw gb) t 0)
  have i1 := wrapped_at t 1 (indices_at (scores (normed x s) gw gb) t 1)
  have v0 := values_at (scores (normed x s) gw gb) t 0
  have v1 := values_at (scores (normed x s) gw gb) t 1
  rw [h0] at i0 v0
  rw [h1] at i1 v1
  rw [hg] at v0 v1
  have hle : values (scores (normed x s) gw gb) (ix2 t 1) ≤ values (scores (normed x s) gw gb) (ix2 t 0) := by
    rw [v0, v1]; exact (A.firstMax_best t).1 _
  have o0 := outputs_at (act_at (hidden_at hn hw1 hb1 i0)) hw2 hb2 i0 n
  have o1 := outputs_at (act_at (hidden_at hn hw1 hb1 i1)) hw2 hb2 i1 n
  obtain ⟨a, ha⟩ := hA t (A.best t)
  obtain ⟨b, hb⟩ := hA t (A.second t)
  unfold block
  rw [combine_at, o0, o1, shares_at hle, shares_at hle, v0, v1, hA.result_eq, hx, ha, hb, softmax_first, softmax_second]

end Cert.Moe.Ref
-- ==== Proof.Pre.lean ====
/-
  The precondition: the scale and the gate's arrays hold no infinity.
-/
module

public import proofs.«01_k».proof.Defs
public import proofs.«01_k».proof.Proof.Reals
public import Idealize.ShloMosaic.Lib.Pointwise

@[expose] public section

noncomputable section

namespace Cert.Moe

open Idealize.ShloMosaic Cert.Pre_finite_router

/-- The precondition's broadcasts are of a scalar to an array. -/
theorem preFacts : Cert.Pre_finite_router.Facts := ⟨by decide, by decide, by decide⟩

/-- The word of plus infinity. -/
theorem bits_inf : Ideal.ofBits .f32 0x7F800000#32 = ⊤ := by
  simp [Ideal.ofBits, Ideal.ieee]

/-- The word of minus infinity. -/
theorem bits_neg_inf : Ideal.ofBits .f32 0xFF800000#32 = ⊥ := by
  simp [Ideal.ofBits, Ideal.ieee]

/-- An entry strictly between the infinities is real. -/
theorem isReal_of_test {a : EReal}
    (h : IntOp.andi (FloatOps.cmpf (F := Ideal) (φ := .f32) .ogt a (Ideal.ofBits .f32 0xFF800000#32))
      (FloatOps.cmpf (F := Ideal) (φ := .f32) .olt a (Ideal.ofBits .f32 0x7F800000#32)) = 1#1) : IsReal a := by
  rw [bits_inf, bits_neg_inf] at h
  change BitVec.ofBool (decide (⊥ < a)) &&& BitVec.ofBool (decide (a < ⊤)) = 1#1 at h
  by_cases h1 : ⊥ < a
  · by_cases h2 : a < ⊤
    · exact isReal_of_ne h1.ne' h2.ne
    · simp [h1, h2] at h
  · simp [h1] at h

variable [Cert.Pre_finite_router.Facts]

/-- What the precondition says of the scale and the gate. -/
theorem reals_of_pre (x : FVec Ideal S128x768 .f32) (s : FVec Ideal S768 .f32) (gw : FVec Ideal S16x768 .f32)
    (gb : FVec Ideal S16 .f32) (w1 : FVec Ideal S16x1536x768 .f32) (b1 : FVec Ideal S16x1536 .f32)
    (w2 : FVec Ideal S16x768x768 .f32) (b2 : FVec Ideal S16x768 .f32)
    (h1 : (fn (F := Ideal) x s gw gb w1 b1 w2 b2).1 = fun _ => 1#1)
    (h2 : (fn (F := Ideal) x s gw gb w1 b1 w2 b2).2.1 = fun _ => 1#1)
    (h3 : (fn (F := Ideal) x s gw gb w1 b1 w2 b2).2.2 = fun _ => 1#1) :
    (∀ k, IsReal (s (ix1 k))) ∧ (∀ e k, IsReal (gw (ix2 e k))) ∧ ∀ e, IsReal (gb (ix1 e)) :=
  ⟨fun k => isReal_of_test (congrFun h1 (ix1 k)),
    fun e k => isReal_of_test (congrFun h2 (ix2 e k)), fun e => isReal_of_test (congrFun h3 (ix1 e))⟩

end Cert.Moe
-- ==== Proof.Equation.lean ====
/-
  The equation: from memories that agree on the arguments, the scale and the gate finite, the kernel's result is the
  reference's.
-/
module

public import proofs.«01_k».proof.Proof.Accum
public import proofs.«01_k».proof.Proof.RefValue
public import proofs.«01_k».proof.Proof.Pre

@[expose] public section

set_option maxRecDepth 16384

noncomputable section

namespace Cert.Moe

open Idealize.ShloMosaic Idealize.ShloMosaic.TcCoe Cert.KernelIdeal

/-- The reference's block on the arrays the kernel is given is the kernel's result. -/
theorem block_eq (m : (ℓ : Loc nD τ sig) → Buf (Elt Ideal) ℓ) (c : Dev nD) (hA : (given m c).Bounded) :
    Ref.block (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) (m ((c : Thread nD τ).loc main_arg7)) = Value.G18 m c := by
  funext j
  rw [eq_ix2 j]
  refine Eq.trans ?_ (kernel_value m c hA _ _).symm
  exact Ref.block_at (A := given m c) (fun _ _ => rfl) (fun _ => rfl) (fun _ _ => rfl) (fun _ => rfl) (fun _ _ _ => rfl)
    (fun _ _ => rfl) (fun _ _ _ => rfl) (fun _ _ => rfl) hA _ _

end Cert.Moe

end
-- ==== Proof.lean ====
/-
  The certificate: the frames, the idealization and the equation of the kernel's result with the reference's.
-/
module

public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.Equation
public import Idealize.ShloMosaic.Adequacy
public import Idealize.ShloMosaic.Init
public import Idealize.ShloMosaic.Lib.Quiescent

@[expose] public section

noncomputable section

namespace Cert.Proof

open Idealize.ShloMosaic Idealize.SL.Sem

/-- The reference leaves its arguments as they were and no semaphore raised. -/
theorem quiescent_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- From memories that agree on the arguments, the scale and the gate finite, both programs end with the same result. -/
theorem algebraic_KernelIdeal_ReferenceIdeal_pre_finite_router :
    algebraic_KernelIdeal_ReferenceIdeal_pre_finite_router (hPre_finite_router := Cert.Moe.preFacts) := by
  intro m ρ m' ρ' hpre hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  haveI := Cert.Moe.preFacts
  obtain ⟨h1, h2, h3⟩ := hpre c
  obtain ⟨hs, hw, hb⟩ := Cert.Moe.reals_of_pre _ _ _ _ _ _ _ _ h1 h2 h3
  obtain ⟨a0, a1, a2, a3, a4, a5, a6, a7⟩ := hagree c
  refine ((h c).1.trans (Cert.Moe.Ref.run_value m' c)).trans ?_
  rw [a0, a1, a2, a3, a4, a5, a6, a7]
  exact Cert.Moe.block_eq m c (Cert.Moe.Arrays.bounded hs hw hb)

/-- Everything the certificate claims. -/
theorem claim : Cert.Claim := ⟨Cert.Kernel.Gen.facts, Cert.KernelIdeal.Gen.facts, Cert.ReferenceIdeal.Gen.facts, Cert.Moe.preFacts,
  fun m ρ _ => Cert.Kernel.Gen.frame m ρ, fun m ρ _ => Cert.KernelIdeal.Gen.frame m ρ, fun m ρ _ => Cert.KernelIdeal.Gen.frame m ρ,
  quiescent_ReferenceIdeal, fun m ρ _ => quiescent_ReferenceIdeal m ρ trivial, (trivial : preserves_Kernel_KernelIdeal),
  algebraic_KernelIdeal_ReferenceIdeal_pre_finite_router⟩

end Cert.Proof

end
